-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v373) = v0 c
          ∧ r.2.mem ((c.tc : Thread Cert.ReferenceIdeal.nD Cert.ReferenceIdeal.τ).loc Cert.ReferenceIdeal.main_v407) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S16384 : Shape := ⟨1, ![16384]⟩
abbrev S8x2048x64 : Shape := ⟨3, ![8, 2048, 64]⟩
abbrev S8x64 : Shape := ⟨2, ![8, 64]⟩
abbrev S2048x8x64 : Shape := ⟨3, ![2048, 8, 64]⟩
abbrev S2048x512 : Shape := ⟨2, ![2048, 512]⟩
abbrev S8x64x2048 : Shape := ⟨3, ![8, 64, 2048]⟩
abbrev S512x2048 : Shape := ⟨2, ![512, 2048]⟩
abbrev S_ : Shape := ⟨0, ![]⟩
abbrev S1x512 : Shape := ⟨2, ![1, 512]⟩
abbrev S16384x1 : Shape := ⟨2, ![16384, 1]⟩
abbrev S1x1 : Shape := ⟨2, ![1, 1]⟩
abbrev S1 : Shape := ⟨1, ![1]⟩
abbrev S1024x1 : Shape := ⟨2, ![1024, 1]⟩
abbrev S1024x2048 : Shape := ⟨2, ![1024, 2048]⟩
abbrev S1x8 : Shape := ⟨2, ![1, 8]⟩
abbrev S512x512 : Shape := ⟨2, ![512, 512]⟩
abbrev S1024x8 : Shape := ⟨2, ![1024, 8]⟩
abbrev S8 : Shape := ⟨1, ![8]⟩
abbrev S1024x512 : Shape := ⟨2, ![1024, 512]⟩
abbrev S64x64 : Shape := ⟨2, ![64, 64]⟩
abbrev S1x64x64 : Shape := ⟨3, ![1, 64, 64]⟩
abbrev S1x1x1 : Shape := ⟨3, ![1, 1, 1]⟩
abbrev S1x64 : Shape := ⟨2, ![1, 64]⟩
abbrev S64 : Shape := ⟨1, ![64]⟩
abbrev S1x1x8 : Shape := ⟨3, ![1, 1, 8]⟩

abbrev nBuf : Space → Nat
  | .hbm => 19
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S8x2048x64, .f32⟩
  | .hbm, ⟨3, _⟩ => ⟨S8x2048x64, .f32⟩
  | .hbm, ⟨4, _⟩ => ⟨S8x64, .f32⟩
  | .hbm, ⟨5, _⟩ => ⟨S2048x8x64, .f32⟩
  | .hbm, ⟨6, _⟩ => ⟨S2048x512, .f32⟩
  | .hbm, ⟨7, _⟩ => ⟨S2048x512, .bf16⟩
  | .hbm, ⟨8, _⟩ => ⟨S8x64x2048, .f32⟩
  | .hbm, ⟨9, _⟩ => ⟨S512x2048, .f32⟩
  | .hbm, ⟨10, _⟩ => ⟨S512x2048, .bf16⟩
  | .hbm, ⟨11, _⟩ => ⟨S_, .f32⟩
  | .hbm, ⟨12, _⟩ => ⟨S8x64, .f32⟩
  | .hbm, ⟨13, _⟩ => ⟨S8x64, .f32⟩
  | .hbm, ⟨14, _⟩ => ⟨S1x512, .f32⟩
  | .hbm, ⟨15, _⟩ => ⟨S16384x1, .i32⟩
  | .hbm, ⟨16, _⟩ => ⟨S16384x2048, .f32⟩
  | .hbm, ⟨17, _⟩ => ⟨S1x1, .f32⟩
  | .hbm, ⟨18, _⟩ => ⟨S1, .f32⟩
  | .local _ .vmem, ⟨0, _⟩ => ⟨S1024x1, .i32⟩
  | .local _ .vmem, ⟨1, _⟩ => ⟨S1024x1, .i32⟩
  | .local _ .vmem, ⟨2, _⟩ => ⟨S1024x2048, .f32⟩
  | .local _ .vmem, ⟨3, _⟩ => ⟨S1024x2048, .f32⟩
  | .local _ .vmem, ⟨4, _⟩ => ⟨S2048x512, .bf16⟩
  | .local _ .vmem, ⟨5, _⟩ => ⟨S512x2048, .bf16⟩
  | .local _ .vmem, ⟨6, _⟩ => ⟨S1x512, .f32⟩
  | .local _ .vmem, ⟨7, _⟩ => ⟨S1024x2048, .f32⟩
  | .local _ .vmem, ⟨8, _⟩ => ⟨S1024x2048, .f32⟩
  | .local _ .vmem, ⟨9, _⟩ => ⟨S1x1, .f32⟩
  | .local _ .vmem, ⟨10, _⟩ => ⟨S2048x512, .fp8e4m3⟩
  | .local _ .vmem, ⟨11, _⟩ => ⟨S512x2048, .fp8e4m3⟩
  | .local _ .vmem, ⟨12, _⟩ => ⟨S1x8, .f32⟩
  | .local _ .vmem, ⟨13, _⟩ => ⟨S512x512, .f32⟩
  | .local _ .vmem, ⟨14, _⟩ => ⟨S512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0_0 : Ref sig .tc := ⟨.hbm, 16, rfl⟩
abbrev main_call0_v10_1 : Ref sig .tc := ⟨.hbm, 17, rfl⟩
abbrev main_v0_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond4 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_23 : BitVec 32 := 0#32
  let v64 : BitVec 1 := Scalar.cmpi .ne v63 c0_i32_23
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x2048 : Shape := ⟨2, ![16384, 2048]⟩
abbrev S16384 : Shape := ⟨1, ![16384]⟩
abbrev S8x2048x64 : Shape := ⟨3, ![8, 2048, 64]⟩
abbrev S8x64 : Shape := ⟨2, ![8, 64]⟩
abbrev S64x64 : Shape := ⟨2, ![64, 64]⟩
abbrev S_ : Shape := ⟨0, ![]⟩
abbrev S1x2048x64 : Shape := ⟨3, ![1, 2048, 64]⟩
abbrev S2048x64 : Shape := ⟨2, ![2048, 64]⟩
abbrev S16384x64 : Shape := ⟨2, ![16384, 64]⟩
abbrev S1x64 : Shape := ⟨2, ![1, 64]⟩
abbrev S64 : Shape := ⟨1, ![64]⟩
abbrev S64x2048 : Shape := ⟨2, ![64, 2048]⟩
abbrev S16384x1 : Shape := ⟨2, ![16384, 1]⟩
abbrev S1 : Shape := ⟨1, ![1]⟩

abbrev nBuf : Space → Nat
  | .hbm => 504
  | .vmem => 0
  | .smem => 0
  | _ => 0

abbrev hbmTy0_0 (i : Nat) : BufTy := match i % 128 with
  | 0 => ⟨S16384x2048, .f32⟩
  | 1 => ⟨S16384, .i32⟩
  | 2 => ⟨S8x2048x64, .f32⟩
  | 3 => ⟨S8x2048x64, .f32⟩
  | 4 => ⟨S8x64, .f32⟩
  | 5 => ⟨S64x64, .i32⟩
  | 6 => ⟨S64x64, .i32⟩
  | 7 => ⟨S_, .i32⟩
  | 8 => ⟨S64x64, .i32⟩
  | 9 => ⟨S64x64, .i32⟩
  | 10 => ⟨S64x64, .i1⟩
  | 11 => ⟨S64x64, .f32⟩
  | 12 => ⟨S_, .i32⟩
  | 13 => ⟨S16384, .i32⟩
  | 14 => ⟨S16384, .i1⟩
  | 15 => ⟨S1x2048x64, .f32⟩
  | 16 => ⟨S2048x64, .f32⟩
  | 17 => ⟨S16384x64, .f32⟩
  | 18 => ⟨S1x64, .f32⟩
  | 19 => ⟨S64, .f32⟩
  | 20 => ⟨S1x64, .f32⟩
  | 21 => ⟨S16384x64, .f32⟩
  | 22 => ⟨S16384x64, .f32⟩
  | 23 => ⟨S1x2048x64, .f32⟩
  | 24 => ⟨S2048x64, .f32⟩
  | 25 => ⟨S64x2048, .f32⟩
  | 26 => ⟨S16384x2048, .f32⟩
  | 27 => ⟨S16384x1, .i1⟩
  | 28 => ⟨S_, .f32⟩
  | 29 => ⟨S16384x2048, .f32⟩
  | 30 => ⟨S16384x2048, .i1⟩
  | 31 => ⟨S16384x2048, .f32⟩
  | 32 => ⟨S16384x2048, .f32⟩
  | 33 => ⟨S_, .i1⟩
  | 34 => ⟨S_, .i1⟩
  | 35 => ⟨S_, .f32⟩
  | 36 => ⟨S1x2048x64, .f32⟩
  | 37 => ⟨S2048x64, .f32⟩
  | 38 => ⟨S64x2048, .f32⟩
  | 39 => ⟨S1x2048x64, .f32⟩
  | 40 => ⟨S2048x64, .f32⟩
  | 41 => ⟨S64x64, .f32⟩
  | 42 => ⟨S64x64, .f32⟩
  | 43 => ⟨S64x64, .f32⟩
  | 44 => ⟨S_, .f32⟩
  | 45 => ⟨S_, .f32⟩
  | 46 => ⟨S_, .f32⟩
  | 47 => ⟨S_, .f32⟩
  | 48 => ⟨S1x2048x64, .f32⟩
  | 49 => ⟨S2048x64, .f32⟩
  | 50 => ⟨S64x2048, .f32⟩
  | 51 => ⟨S1x2048x64, .f32⟩
  | 52 => ⟨S2048x64, .f32⟩
  | 53 => ⟨S64x64, .f32⟩
  | 54 => ⟨S64x64, .f32⟩
  | 55 => ⟨S64x64, .f32⟩
  | 56 => ⟨S_, .f32⟩
  | 57 => ⟨S_, .f32⟩
  | 58 => ⟨S_, .f32⟩
  | 59 => ⟨S_, .f32⟩
  | 60 => ⟨S_, .f32⟩
  | 61 => ⟨S1x64, .f32⟩
  | 62 => ⟨S64, .f32⟩
  | 63 => ⟨S64, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .i32⟩
  | 75 => ⟨S16384, .i32⟩
  | 76 => ⟨S16384, .i1⟩
  | 77 => ⟨S1x2048x64, .f32⟩
  | 78 => ⟨S2048x64, .f32⟩
  | 79 => ⟨S16384x64, .f32⟩
  | 80 => ⟨S1x64, .f32⟩
  | 81 => ⟨S64, .f32⟩
  | 82 => ⟨S1x64, .f32⟩
  | 83 => ⟨S16384x64, .f32⟩
  | 84 => ⟨S16384x64, .f32⟩
  | 85 => ⟨S1x2048x64, .f32⟩
  | 86 => ⟨S2048x64, .f32⟩
  | 87 => ⟨S64x2048, .f32⟩
  | 88 => ⟨S16384x2048, .f32⟩
  | 89 => ⟨S16384x1, .i1⟩
  | 90 => ⟨S_, .f32⟩
  | 91 => ⟨S16384x2048, .f32⟩
  | 92 => ⟨S16384x2048, .i1⟩
  | 93 => ⟨S16384x2048, .f32⟩
  | 94 => ⟨S16384x2048, .f32⟩
  | 95 => ⟨S_, .i1⟩
  | 96 => ⟨S_, .i1⟩
  | 97 => ⟨S_, .f32⟩
  | 98 => ⟨S1x2048x64, .f32⟩
  | 99 => ⟨S2048x64, .f32⟩
  | 100 => ⟨S64x2048, .f32⟩
  | 101 => ⟨S1x2048x64, .f32⟩
  | 102 => ⟨S2048x64, .f32⟩
  | 103 => ⟨S64x64, .f32⟩
  | 104 => ⟨S64x64, .f32⟩
  | 105 => ⟨S64x64, .f32⟩
  | 106 => ⟨S_, .f32⟩
  | 107 => ⟨S_, .f32⟩
  | 108 => ⟨S_, .f32⟩
  | 109 => ⟨S_, .f32⟩
  | 110 => ⟨S1x2048x64, .f32⟩
  | 111 => ⟨S2048x64, .f32⟩
  | 112 => ⟨S64x2048, .f32⟩
  | 113 => ⟨S1x2048x64, .f32⟩
  | 114 => ⟨S2048x64, .f32⟩
  | 115 => ⟨S64x64, .f32⟩
  | 116 => ⟨S64x64, .f32⟩
  | 117 => ⟨S64x64, .f32⟩
  | 118 => ⟨S_, .f32⟩
  | 119 => ⟨S_, .f32⟩
  | 120 => ⟨S_, .f32⟩
  | 121 => ⟨S_, .f32⟩
  | 122 => ⟨S_, .f32⟩
  | 123 => ⟨S1x64, .f32⟩
  | 124 => ⟨S64, .f32⟩
  | 125 => ⟨S64, .f32⟩
  | 126 => ⟨S_, .f32⟩
  | 127 => ⟨S_, .f32⟩
  | _ => ⟨S16384x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i32⟩
  | 8 => ⟨S16384, .i32⟩
  | 9 => ⟨S16384, .i1⟩
  | 10 => ⟨S1x2048x64, .f32⟩
  | 11 => ⟨S2048x64, .f32⟩
  | 12 => ⟨S16384x64, .f32⟩
  | 13 => ⟨S1x64, .f32⟩
  | 14 => ⟨S64, .f32⟩
  | 15 => ⟨S1x64, .f32⟩
  | 16 => ⟨S16384x64, .f32⟩
  | 17 => ⟨S16384x64, .f32⟩
  | 18 => ⟨S1x2048x64, .f32⟩
  | 19 => ⟨S2048x64, .f32⟩
  | 20 => ⟨S64x2048, .f32⟩
  | 21 => ⟨S16384x2048, .f32⟩
  | 22 => ⟨S16384x1, .i1⟩
  | 23 => ⟨S_, .f32⟩
  | 24 => ⟨S16384x2048, .f32⟩
  | 25 => ⟨S16384x2048, .i1⟩
  | 26 => ⟨S16384x2048, .f32⟩
  | 27 => ⟨S16384x2048, .f32⟩
  | 28 => ⟨S_, .i1⟩
  | 29 => ⟨S_, .i1⟩
  | 30 => ⟨S_, .f32⟩
  | 31 => ⟨S1x2048x64, .f32⟩
  | 32 => ⟨S2048x64, .f32⟩
  | 33 => ⟨S64x2048, .f32⟩
  | 34 => ⟨S1x2048x64, .f32⟩
  | 35 => ⟨S2048x64, .f32⟩
  | 36 => ⟨S64x64, .f32⟩
  | 37 => ⟨S64x64, .f32⟩
  | 38 => ⟨S64x64, .f32⟩
  | 39 => ⟨S_, .f32⟩
  | 40 => ⟨S_, .f32⟩
  | 41 => ⟨S_, .f32⟩
  | 42 => ⟨S_, .f32⟩
  | 43 => ⟨S1x2048x64, .f32⟩
  | 44 => ⟨S2048x64, .f32⟩
  | 45 => ⟨S64x2048, .f32⟩
  | 46 => ⟨S1x2048x64, .f32⟩
  | 47 => ⟨S2048x64, .f32⟩
  | 48 => ⟨S64x64, .f32⟩
  | 49 => ⟨S64x64, .f32⟩
  | 50 => ⟨S64x64, .f32⟩
  | 51 => ⟨S_, .f32⟩
  | 52 => ⟨S_, .f32⟩
  | 53 => ⟨S_, .f32⟩
  | 54 => ⟨S_, .f32⟩
  | 55 => ⟨S_, .f32⟩
  | 56 => ⟨S1x64, .f32⟩
  | 57 => ⟨S64, .f32⟩
  | 58 => ⟨S64, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .i32⟩
  | 69 => ⟨S16384, .i32⟩
  | 70 => ⟨S16384, .i1⟩
  | 71 => ⟨S1x2048x64, .f32⟩
  | 72 => ⟨S2048x64, .f32⟩
  | 73 => ⟨S16384x64, .f32⟩
  | 74 => ⟨S1x64, .f32⟩
  | 75 => ⟨S64, .f32⟩
  | 76 => ⟨S1x64, .f32⟩
  | 77 => ⟨S16384x64, .f32⟩
  | 78 => ⟨S16384x64, .f32⟩
  | 79 => ⟨S1x2048x64, .f32⟩
  | 80 => ⟨S2048x64, .f32⟩
  | 81 => ⟨S64x2048, .f32⟩
  | 82 => ⟨S16384x2048, .f32⟩
  | 83 => ⟨S16384x1, .i1⟩
  | 84 => ⟨S_, .f32⟩
  | 85 => ⟨S16384x2048, .f32⟩
  | 86 => ⟨S16384x2048, .i1⟩
  | 87 => ⟨S16384x2048, .f32⟩
  | 88 => ⟨S16384x2048, .f32⟩
  | 89 => ⟨S_, .i1⟩
  | 90 => ⟨S_, .i1⟩
  | 91 => ⟨S_, .f32⟩
  | 92 => ⟨S1x2048x64, .f32⟩
  | 93 => ⟨S2048x64, .f32⟩
  | 94 => ⟨S64x2048, .f32⟩
  | 95 => ⟨S1x2048x64, .f32⟩
  | 96 => ⟨S2048x64, .f32⟩
  | 97 => ⟨S64x64, .f32⟩
  | 98 => ⟨S64x64, .f32⟩
  | 99 => ⟨S64x64, .f32⟩
  | 100 => ⟨S_, .f32⟩
  | 101 => ⟨S_, .f32⟩
  | 102 => ⟨S_, .f32⟩
  | 103 => ⟨S_, .f32⟩
  | 104 => ⟨S1x2048x64, .f32⟩
  | 105 => ⟨S2048x64, .f32⟩
  | 106 => ⟨S64x2048, .f32⟩
  | 107 => ⟨S1x2048x64, .f32⟩
  | 108 => ⟨S2048x64, .f32⟩
  | 109 => ⟨S64x64, .f32⟩
  | 110 => ⟨S64x64, .f32⟩
  | 111 => ⟨S64x64, .f32⟩
  | 112 => ⟨S_, .f32⟩
  | 113 => ⟨S_, .f32⟩
  | 114 => ⟨S_, .f32⟩
  | 115 => ⟨S_, .f32⟩
  | 116 => ⟨S_, .f32⟩
  | 117 => ⟨S1x64, .f32⟩
  | 118 => ⟨S64, .f32⟩
  | 119 => ⟨S64, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x2048, .f32⟩

abbrev hbmTy0_2 (i : Nat) : BufTy := match i % 128 with
  | 0 => ⟨S_, .f32⟩
  | 1 => ⟨S_, .i32⟩
  | 2 => ⟨S16384, .i32⟩
  | 3 => ⟨S16384, .i1⟩
  | 4 => ⟨S1x2048x64, .f32⟩
  | 5 => ⟨S2048x64, .f32⟩
  | 6 => ⟨S16384x64, .f32⟩
  | 7 => ⟨S1x64, .f32⟩
  | 8 => ⟨S64, .f32⟩
  | 9 => ⟨S1x64, .f32⟩
  | 10 => ⟨S16384x64, .f32⟩
  | 11 => ⟨S16384x64, .f32⟩
  | 12 => ⟨S1x2048x64, .f32⟩
  | 13 => ⟨S2048x64, .f32⟩
  | 14 => ⟨S64x2048, .f32⟩
  | 15 => ⟨S16384x2048, .f32⟩
  | 16 => ⟨S16384x1, .i1⟩
  | 17 => ⟨S_, .f32⟩
  | 18 => ⟨S16384x2048, .f32⟩
  | 19 => ⟨S16384x2048, .i1⟩
  | 20 => ⟨S16384x2048, .f32⟩
  | 21 => ⟨S16384x2048, .f32⟩
  | 22 => ⟨S_, .i1⟩
  | 23 => ⟨S_, .i1⟩
  | 24 => ⟨S_, .f32⟩
  | 25 => ⟨S1x2048x64, .f32⟩
  | 26 => ⟨S2048x64, .f32⟩
  | 27 => ⟨S64x2048, .f32⟩
  | 28 => ⟨S1x2048x64, .f32⟩
  | 29 => ⟨S2048x64, .f32⟩
  | 30 => ⟨S64x64, .f32⟩
  | 31 => ⟨S64x64, .f32⟩
  | 32 => ⟨S64x64, .f32⟩
  | 33 => ⟨S_, .f32⟩
  | 34 => ⟨S_, .f32⟩
  | 35 => ⟨S_, .f32⟩
  | 36 => ⟨S_, .f32⟩
  | 37 => ⟨S1x2048x64, .f32⟩
  | 38 => ⟨S2048x64, .f32⟩
  | 39 => ⟨S64x2048, .f32⟩
  | 40 => ⟨S1x2048x64, .f32⟩
  | 41 => ⟨S2048x64, .f32⟩
  | 42 => ⟨S64x64, .f32⟩
  | 43 => ⟨S64x64, .f32⟩
  | 44 => ⟨S64x64, .f32⟩
  | 45 => ⟨S_, .f32⟩
  | 46 => ⟨S_, .f32⟩
  | 47 => ⟨S_, .f32⟩
  | 48 => ⟨S_, .f32⟩
  | 49 => ⟨S_, .f32⟩
  | 50 => ⟨S1x64, .f32⟩
  | 51 => ⟨S64, .f32⟩
  | 52 => ⟨S64, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i32⟩
  | 63 => ⟨S16384, .i32⟩
  | 64 => ⟨S16384, .i1⟩
  | 65 => ⟨S1x2048x64, .f32⟩
  | 66 => ⟨S2048x64, .f32⟩
  | 67 => ⟨S16384x64, .f32⟩
  | 68 => ⟨S1x64, .f32⟩
  | 69 => ⟨S64, .f32⟩
  | 70 => ⟨S1x64, .f32⟩
  | 71 => ⟨S16384x64, .f32⟩
  | 72 => ⟨S16384x64, .f32⟩
  | 73 => ⟨S1x2048x64, .f32⟩
  | 74 => ⟨S2048x64, .f32⟩
  | 75 => ⟨S64x2048, .f32⟩
  | 76 => ⟨S16384x2048, .f32⟩
  | 77 => ⟨S16384x1, .i1⟩
  | 78 => ⟨S_, .f32⟩
  | 79 => ⟨S16384x2048, .f32⟩
  | 80 => ⟨S16384x2048, .i1⟩
  | 81 => ⟨S16384x2048, .f32⟩
  | 82 => ⟨S16384x2048, .f32⟩
  | 83 => ⟨S_, .i1⟩
  | 84 => ⟨S_, .i1⟩
  | 85 => ⟨S_, .f32⟩
  | 86 => ⟨S1x2048x64, .f32⟩
  | 87 => ⟨S2048x64, .f32⟩
  | 88 => ⟨S64x2048, .f32⟩
  | 89 => ⟨S1x2048x64, .f32⟩
  | 90 => ⟨S2048x64, .f32⟩
  | 91 => ⟨S64x64, .f32⟩
  | 92 => ⟨S64x64, .f32⟩
  | 93 => ⟨S64x64, .f32⟩
  | 94 => ⟨S_, .f32⟩
  | 95 => ⟨S_, .f32⟩
  | 96 => ⟨S_, .f32⟩
  | 97 => ⟨S_, .f32⟩
  | 98 => ⟨S1x2048x64, .f32⟩
  | 99 => ⟨S2048x64, .f32⟩
  | 100 => ⟨S64x2048, .f32⟩
  | 101 => ⟨S1x2048x64, .f32⟩
  | 102 => ⟨S2048x64, .f32⟩
  | 103 => ⟨S64x64, .f32⟩
  | 104 => ⟨S64x64, .f32⟩
  | 105 => ⟨S64x64, .f32⟩
  | 106 => ⟨S_, .f32⟩
  | 107 => ⟨S_, .f32⟩
  | 108 => ⟨S_, .f32⟩
  | 109 => ⟨S_, .f32⟩
  | 110 => ⟨S_, .f32⟩
  | 111 => ⟨S1x64, .f32⟩
  | 112 => ⟨S64, .f32⟩
  | 113 => ⟨S64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .i32⟩
  | 124 => ⟨S16384, .i32⟩
  | 125 => ⟨S16384, .i1⟩
  | 126 => ⟨S1x2048x64, .f32⟩
  | 127 => ⟨S2048x64, .f32⟩
  | _ => ⟨S16384x2048, .f32⟩

abbrev hbmTy0_3 (i : Nat) : BufTy := match i % 128 with
  | 0 => ⟨S16384x64, .f32⟩
  | 1 => ⟨S1x64, .f32⟩
  | 2 => ⟨S64, .f32⟩
  | 3 => ⟨S1x64, .f32⟩
  | 4 => ⟨S16384x64, .f32⟩
  | 5 => ⟨S16384x64, .f32⟩
  | 6 => ⟨S1x2048x64, .f32⟩
  | 7 => ⟨S2048x64, .f32⟩
  | 8 => ⟨S64x2048, .f32⟩
  | 9 => ⟨S16384x2048, .f32⟩
  | 10 => ⟨S16384x1, .i1⟩
  | 11 => ⟨S_, .f32⟩
  | 12 => ⟨S16384x2048, .f32⟩
  | 13 => ⟨S16384x2048, .i1⟩
  | 14 => ⟨S16384x2048, .f32⟩
  | 15 => ⟨S16384x2048, .f32⟩
  | 16 => ⟨S_, .i1⟩
  | 17 => ⟨S_, .i1⟩
  | 18 => ⟨S_, .f32⟩
  | 19 => ⟨S1x2048x64, .f32⟩
  | 20 => ⟨S2048x64, .f32⟩
  | 21 => ⟨S64x2048, .f32⟩
  | 22 => ⟨S1x2048x64, .f32⟩
  | 23 => ⟨S2048x64, .f32⟩
  | 24 => ⟨S64x64, .f32⟩
  | 25 => ⟨S64x64, .f32⟩
  | 26 => ⟨S64x64, .f32⟩
  | 27 => ⟨S_, .f32⟩
  | 28 => ⟨S_, .f32⟩
  | 29 => ⟨S_, .f32⟩
  | 30 => ⟨S_, .f32⟩
  | 31 => ⟨S1x2048x64, .f32⟩
  | 32 => ⟨S2048x64, .f32⟩
  | 33 => ⟨S64x2048, .f32⟩
  | 34 => ⟨S1x2048x64, .f32⟩
  | 35 => ⟨S2048x64, .f32⟩
  | 36 => ⟨S64x64, .f32⟩
  | 37 => ⟨S64x64, .f32⟩
  | 38 => ⟨S64x64, .f32⟩
  | 39 => ⟨S_, .f32⟩
  | 40 => ⟨S_, .f32⟩
  | 41 => ⟨S_, .f32⟩
  | 42 => ⟨S_, .f32⟩
  | 43 => ⟨S_, .f32⟩
  | 44 => ⟨S1x64, .f32⟩
  | 45 => ⟨S64, .f32⟩
  | 46 => ⟨S64, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .i32⟩
  | 57 => ⟨S16384, .i32⟩
  | 58 => ⟨S16384, .i1⟩
  | 59 => ⟨S1x2048x64, .f32⟩
  | 60 => ⟨S2048x64, .f32⟩
  | 61 => ⟨S16384x64, .f32⟩
  | 62 => ⟨S1x64, .f32⟩
  | 63 => ⟨S64, .f32⟩
  | 64 => ⟨S1x64, .f32⟩
  | 65 => ⟨S16384x64, .f32⟩
  | 66 => ⟨S16384x64, .f32⟩
  | 67 => ⟨S1x2048x64, .f32⟩
  | 68 => ⟨S2048x64, .f32⟩
  | 69 => ⟨S64x2048, .f32⟩
  | 70 => ⟨S16384x2048, .f32⟩
  | 71 => ⟨S16384x1, .i1⟩
  | 72 => ⟨S_, .f32⟩
  | 73 => ⟨S16384x2048, .f32⟩
  | 74 => ⟨S16384x2048, .i1⟩
  | 75 => ⟨S16384x2048, .f32⟩
  | 76 => ⟨S16384x2048, .f32⟩
  | 77 => ⟨S_, .i1⟩
  | 78 => ⟨S_, .i1⟩
  | 79 => ⟨S_, .f32⟩
  | 80 => ⟨S1x2048x64, .f32⟩
  | 81 => ⟨S2048x64, .f32⟩
  | 82 => ⟨S64x2048, .f32⟩
  | 83 => ⟨S1x2048x64, .f32⟩
  | 84 => ⟨S2048x64, .f32⟩
  | 85 => ⟨S64x64, .f32⟩
  | 86 => ⟨S64x64, .f32⟩
  | 87 => ⟨S64x64, .f32⟩
  | 88 => ⟨S_, .f32⟩
  | 89 => ⟨S_, .f32⟩
  | 90 => ⟨S_, .f32⟩
  | 91 => ⟨S_, .f32⟩
  | 92 => ⟨S1x2048x64, .f32⟩
  | 93 => ⟨S2048x64, .f32⟩
  | 94 => ⟨S64x2048, .f32⟩
  | 95 => ⟨S1x2048x64, .f32⟩
  | 96 => ⟨S2048x64, .f32⟩
  | 97 => ⟨S64x64, .f32⟩
  | 98 => ⟨S64x64, .f32⟩
  | 99 => ⟨S64x64, .f32⟩
  | 100 => ⟨S_, .f32⟩
  | 101 => ⟨S_, .f32⟩
  | 102 => ⟨S_, .f32⟩
  | 103 => ⟨S_, .f32⟩
  | 104 => ⟨S_, .f32⟩
  | 105 => ⟨S1x64, .f32⟩
  | 106 => ⟨S64, .f32⟩
  | 107 => ⟨S64, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S1, .f32⟩
  | _ => ⟨S16384x2048, .f32⟩

abbrev hbmTy (i : Nat) : BufTy := match i / 128 with
  | 0 => hbmTy0_0 i
  | 1 => hbmTy0_1 i
  | 2 => hbmTy0_2 i
  | 3 => hbmTy0_3 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_call1_v0 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_15 : Ref sig .tc := ⟨.hbm, 118, rfl⟩
abbrev main_v94 : Ref sig .tc := ⟨.hbm, 119, rfl⟩
abbrev main_cst_16 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_cst_18 : Ref sig .tc := ⟨.hbm, 128, rfl⟩
abbrev main_v101 : Ref sig .tc := ⟨.hbm, 129, rfl⟩
abbrev main_cst_19 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_c_20 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_21 : Ref sig .tc := ⟨.hbm, 151, rfl⟩
abbrev main_v121 : Ref sig .tc := ⟨.hbm, 152, rfl⟩
abbrev main_call2_v0 : Ref sig .tc := ⟨.hbm, 153, rfl⟩
abbrev main_v122 : Ref sig .tc := ⟨.hbm, 154, rfl⟩
abbrev main_v123 : Ref sig .tc := ⟨.hbm, 155, rfl⟩
abbrev main_c_22 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_23 : Ref sig .tc := ⟨.hbm, 167, rfl⟩
abbrev main_v134 : Ref sig .tc := ⟨.hbm, 168, rfl⟩
abbrev main_cst_24 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_25 : Ref sig .tc := ⟨.hbm, 179, rfl⟩
abbrev main_v144 : Ref sig .tc := ⟨.hbm, 180, rfl⟩
abbrev main_cst_26 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_27 : Ref sig .tc := ⟨.hbm, 187, rfl⟩
abbrev main_v150 : Ref sig .tc := ⟨.hbm, 188, rfl⟩
abbrev main_cst_28 : Ref sig .tc := ⟨.hbm, 189, rfl⟩
abbrev main_v151 : Ref sig .tc := ⟨.hbm, 190, rfl⟩
abbrev main_cst_29 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_c_30 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_cst_31 : Ref sig .tc := ⟨.hbm, 212, rfl⟩
abbrev main_v171 : Ref sig .tc := ⟨.hbm, 213, rfl⟩
abbrev main_call3_v0 : Ref sig .tc := ⟨.hbm, 214, rfl⟩
abbrev main_v172 : Ref sig .tc := ⟨.hbm, 215, rfl⟩
abbrev main_v173 : Ref sig .tc := ⟨.hbm, 216, rfl⟩
abbrev main_c_32 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_33 : Ref sig .tc := ⟨.hbm, 228, rfl⟩
abbrev main_v184 : Ref sig .tc := ⟨.hbm, 229, rfl⟩
abbrev main_cst_34 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_cst_35 : Ref sig .tc := ⟨.hbm, 240, rfl⟩
abbrev main_v194 : Ref sig .tc := ⟨.hbm, 241, rfl⟩
abbrev main_cst_36 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_cst_37 : Ref sig .tc := ⟨.hbm, 248, rfl⟩
abbrev main_v200 : Ref sig .tc := ⟨.hbm, 249, rfl⟩
abbrev main_cst_38 : Ref sig .tc := ⟨.hbm, 250, rfl⟩
abbrev main_v201 : Ref sig .tc := ⟨.hbm, 251, rfl⟩
abbrev main_cst_39 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_c_40 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_cst_41 : Ref sig .tc := ⟨.hbm, 273, rfl⟩
abbrev main_v221 : Ref sig .tc := ⟨.hbm, 274, rfl⟩
abbrev main_call4_v0 : Ref sig .tc := ⟨.hbm, 275, rfl⟩
abbrev main_v222 : Ref sig .tc := ⟨.hbm, 276, rfl⟩
abbrev main_v223 : Ref sig .tc := ⟨.hbm, 277, rfl⟩
abbrev main_c_42 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_cst_43 : Ref sig .tc := ⟨.hbm, 289, rfl⟩
abbrev main_v234 : Ref sig .tc := ⟨.hbm, 290, rfl⟩
abbrev main_cst_44 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_cst_45 : Ref sig .tc := ⟨.hbm, 301, rfl⟩
abbrev main_v244 : Ref sig .tc := ⟨.hbm, 302, rfl⟩
abbrev main_cst_46 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_cst_47 : Ref sig .tc := ⟨.hbm, 309, rfl⟩
abbrev main_v250 : Ref sig .tc := ⟨.hbm, 310, rfl⟩
abbrev main_cst_48 : Ref sig .tc := ⟨.hbm, 311, rfl⟩
abbrev main_v251 : Ref sig .tc := ⟨.hbm, 312, rfl⟩
abbrev main_cst_49 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_c_50 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_cst_51 : Ref sig .tc := ⟨.hbm, 334, rfl⟩
abbrev main_v271 : Ref sig .tc := ⟨.hbm, 335, rfl⟩
abbrev main_call5_v0 : Ref sig .tc := ⟨.hbm, 336, rfl⟩
abbrev main_v272 : Ref sig .tc := ⟨.hbm, 337, rfl⟩
abbrev main_v273 : Ref sig .tc := ⟨.hbm, 338, rfl⟩
abbrev main_c_52 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_cst_53 : Ref sig .tc := ⟨.hbm, 350, rfl⟩
abbrev main_v284 : Ref sig .tc := ⟨.hbm, 351, rfl⟩
abbrev main_cst_54 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_cst_55 : Ref sig .tc := ⟨.hbm, 362, rfl⟩
abbrev main_v294 : Ref sig .tc := ⟨.hbm, 363, rfl⟩
abbrev main_cst_56 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_cst_57 : Ref sig .tc := ⟨.hbm, 370, rfl⟩
abbrev main_v300 : Ref sig .tc := ⟨.hbm, 371, rfl⟩
abbrev main_cst_58 : Ref sig .tc := ⟨.hbm, 372, rfl⟩
abbrev main_v301 : Ref sig .tc := ⟨.hbm, 373, rfl⟩
abbrev main_cst_59 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_c_60 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_cst_61 : Ref sig .tc := ⟨.hbm, 395, rfl⟩
abbrev main_v321 : Ref sig .tc := ⟨.hbm, 396, rfl⟩
abbrev main_call6_v0 : Ref sig .tc := ⟨.hbm, 397, rfl⟩
abbrev main_v322 : Ref sig .tc := ⟨.hbm, 398, rfl⟩
abbrev main_v323 : Ref sig .tc := ⟨.hbm, 399, rfl⟩
abbrev main_c_62 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_v332 : Ref sig .tc := ⟨.hbm, 409, rfl⟩
abbrev main_v333 : Ref sig .tc := ⟨.hbm, 410, rfl⟩
abbrev main_cst_63 : Ref sig .tc := ⟨.hbm, 411, rfl⟩
abbrev main_v334 : Ref sig .tc := ⟨.hbm, 412, rfl⟩
abbrev main_cst_64 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_v342 : Ref sig .tc := ⟨.hbm, 421, rfl⟩
abbrev main_v343 : Ref sig .tc := ⟨.hbm, 422, rfl⟩
abbrev main_cst_65 : Ref sig .tc := ⟨.hbm, 423, rfl⟩
abbrev main_v344 : Ref sig .tc := ⟨.hbm, 424, rfl⟩
abbrev main_cst_66 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_cst_67 : Ref sig .tc := ⟨.hbm, 431, rfl⟩
abbrev main_v350 : Ref sig .tc := ⟨.hbm, 432, rfl⟩
abbrev main_cst_68 : Ref sig .tc := ⟨.hbm, 433, rfl⟩
abbrev main_v351 : Ref sig .tc := ⟨.hbm, 434, rfl⟩
abbrev main_cst_69 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_c_70 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_v363 : Ref sig .tc := ⟨.hbm, 448, rfl⟩
abbrev main_v364 : Ref sig .tc := ⟨.hbm, 449, rfl⟩
abbrev main_v365 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_cst_71 : Ref sig .tc := ⟨.hbm, 456, rfl⟩
abbrev main_v371 : Ref sig .tc := ⟨.hbm, 457, rfl⟩
abbrev main_call7_v0 : Ref sig .tc := ⟨.hbm, 458, rfl⟩
abbrev main_v372 : Ref sig .tc := ⟨.hbm, 459, rfl⟩
abbrev main_v373 : Ref sig .tc := ⟨.hbm, 460, rfl⟩
abbrev main_c_72 : Ref sig .tc := ⟨.hbm, 461, rfl⟩
abbrev main_v374 : Ref sig .tc := ⟨.hbm, 462, rfl⟩
abbrev main_v375 : Ref sig .tc := ⟨.hbm, 463, rfl⟩
abbrev main_v376 : Ref sig .tc := ⟨.hbm, 464, rfl⟩
abbrev main_v377 : Ref sig .tc := ⟨.hbm, 465, rfl⟩
abbrev main_v378 : Ref sig .tc := ⟨.hbm, 466, rfl⟩
abbrev main_v379 : Ref sig .tc := ⟨.hbm, 467, rfl⟩
abbrev main_v380 : Ref sig .tc := ⟨.hbm, 468, rfl⟩
abbrev main_v381 : Ref sig .tc := ⟨.hbm, 469, rfl⟩
abbrev main_v382 : Ref sig .tc := ⟨.hbm, 470, rfl⟩
abbrev main_v383 : Ref sig .tc := ⟨.hbm, 471, rfl⟩
abbrev main_cst_73 : Ref sig .tc := ⟨.hbm, 472, rfl⟩
abbrev main_v384 : Ref sig .tc := ⟨.hbm, 473, rfl⟩
abbrev main_cst_74 : Ref sig .tc := ⟨.hbm, 474, rfl⟩
abbrev main_v385 : Ref sig .tc := ⟨.hbm, 475, rfl⟩
abbrev main_v386 : Ref sig .tc := ⟨.hbm, 476, rfl⟩
abbrev main_v387 : Ref sig .tc := ⟨.hbm, 477, rfl⟩
abbrev main_v388 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_cst_75 : Ref sig .tc := ⟨.hbm, 484, rfl⟩
abbrev main_v394 : Ref sig .tc := ⟨.hbm, 485, rfl⟩
abbrev main_cst_76 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_cst_77 : Ref sig .tc := ⟨.hbm, 492, rfl⟩
abbrev main_v400 : Ref sig .tc := ⟨.hbm, 493, rfl⟩
abbrev main_cst_78 : Ref sig .tc := ⟨.hbm, 494, rfl⟩
abbrev main_v401 : Ref sig .tc := ⟨.hbm, 495, rfl⟩
abbrev main_cst_79 : Ref sig .tc := ⟨.hbm, 496, rfl⟩
abbrev main_v402 : Ref sig .tc := ⟨.hbm, 497, rfl⟩
abbrev main_v403 : Ref sig .tc := ⟨.hbm, 498, rfl⟩
abbrev main_v404 : Ref sig .tc := ⟨.hbm, 499, rfl⟩
abbrev main_v405 : Ref sig .tc := ⟨.hbm, 500, rfl⟩
abbrev main_cst_80 : Ref sig .tc := ⟨.hbm, 501, rfl⟩
abbrev main_v406 : Ref sig .tc := ⟨.hbm, 502, rfl⟩
abbrev main_v407 : Ref sig .tc := ⟨.hbm, 503, rfl⟩

abbrev nD : Nat := 1
abbrev τ : Topo := Topo.v7x

variable {F : FTy → Type} [FloatOps F]
-- ==== Proof.Points.lean ====
/- What the runs of the body at a grid point are stated over: its branch conditions over the points, and its staging and scratch
   buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Ring
public import Idealize.ShloMosaic.Lib.Tactic
public import Idealize.ShloMosaic.Lib.WordCmp
public import Idealize.ShloMosaic.Lib.Pipeline.FrameBody
public import Idealize.ShloMosaic.Lib.Pipeline.FrameSuffix
public import Idealize.ShloMosaic.Lib.Pipeline.ReadBack
public import Idealize.ShloMosaic.Lib.Pipeline.ValueKit.Acc

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the body stores into the output block at a point: from the block of domain numbers, the block of features, the two
    scratch copies of the adapters and the scales. -/
def outK (x0 : Vec F S1024x1 .i32) (x1 : Vec F S1024x2048 .f32) (w8 : Vec F S2048x512 .fp8e4m3) (w9 : Vec F S512x2048 .fp8e4m3)
    (x4 : Vec F S1x512 .f32) : Vec F S1024x2048 .f32 :=
  k0_pay1 (k0_pay19 x0) x1 (k0_pay27 x1 w8 x4) (iota .tc S1x512 32 [1] iota_S1x512_d1_w32) 64#32 k0_pay28 k0_pay29 w9

/-- The word numbering the eight domains along a row. -/
abbrev v2K : IVec S1x8 32 := iota .tc S1x8 32 [1] iota_S1x8_d1_w32

/-- Domain `d`'s diagonal block of a 512 by 512 product of the stacked factors. -/
abbrev gblk (g : Vec F S512x512 .f32) (off : Fin 2 → ℕ) (h : ∀ a, off a + S64x64.size a ≤ S512x512.size a) : Vec F S64x64 .f32 :=
  View.ld g (Rect.unit (s := S512x512) off S64x64.size h)

/-- A domain's 64 scales. -/
abbrev sblk (x4 : Vec F S1x512 .f32) (off : Fin 2 → ℕ) (h : ∀ a, off a + S1x64.size a ≤ S1x512.size a) : Vec F S1x64 .f32 :=
  View.ld x4 (Rect.unit (s := S1x512) off S1x64.size h)

/-- The row of the eight domains' penalties after domain 0, and so on up to domain 6, as the last point accumulates it. -/
def rowK0 (gv gu : Vec F S512x512 .f32) (x4 : Vec F S1x512 .f32) : FVec F S1x8 .f32 := k0_pay4 v2K (gblk gu ![0, 0] inb_S512x512_S64x64_0_0) (gblk gv ![0, 0] inb_S512x512_S64x64_0_0) (sblk x4 ![0, 0] inb_S1x512_S1x64_0_0)
def rowK1 (gv gu : Vec F S512x512 .f32) (x4 : Vec F S1x512 .f32) : FVec F S1x8 .f32 := k0_pay6 v2K k0_pay3 (rowK0 gv gu x4) (k0_pay5 (gblk gu ![64, 64] inb_S512x512_S64x64_64_64)) (gblk gv ![64, 64] inb_S512x512_S64x64_64_64) (sblk x4 ![0, 64] inb_S1x512_S1x64_0_64)
def rowK2 (gv gu : Vec F S512x512 .f32) (x4 : Vec F S1x512 .f32) : FVec F S1x8 .f32 := k0_pay9 v2K (rowK1 gv gu x4) (k0_pay7 k0_pay3 (gblk gu ![128, 128] inb_S512x512_S64x64_128_128)) (k0_pay8 k0_pay3 (gblk gv ![128, 128] inb_S512x512_S64x64_128_128)) (sblk x4 ![0, 128] inb_S1x512_S1x64_0_128)
def rowK3 (gv gu : Vec F S512x512 .f32) (x4 : Vec F S1x512 .f32) : FVec F S1x8 .f32 := k0_pay12 v2K (rowK2 gv gu x4) (k0_pay10 k0_pay3 (gblk gu ![192, 192] inb_S512x512_S64x64_192_192) (gblk gv ![192, 192] inb_S512x512_S64x64_192_192)) (k0_pay11 (sblk x4 ![0, 192] inb_S1x512_S1x64_0_192))
def rowK5 (gv gu : Vec F S512x512 .f32) (x4 : Vec F S1x512 .f32) : FVec F S1x8 .f32 := k0_pay14 v2K k0_pay3 (rowK3 gv gu x4) (k0_pay13 k0_pay3 (gblk gu ![256, 256] inb_S512x512_S64x64_256_256) (gblk gv ![256, 256] inb_S512x512_S64x64_256_256) (sblk x4 ![0, 256] inb_S1x512_S1x64_0_256)) 4#32 (gblk gu ![320, 320] inb_S512x512_S64x64_320_320) (gblk gv ![320, 320] inb_S512x512_S64x64_320_320) (sblk x4 ![0, 320] inb_S1x512_S1x64_0_320)
def rowK6 (gv gu : Vec F S512x512 .f32) (x4 : Vec F S1x512 .f32) : FVec F S1x8 .f32 := k0_pay16 v2K k0_pay3 (rowK5 gv gu x4) (k0_pay15 k0_pay3 (gblk gu ![384, 384] inb_S512x512_S64x64_384_384)) (gblk gv ![384, 384] inb_S512x512_S64x64_384_384) (sblk x4 ![0, 384] inb_S1x512_S1x64_0_384)

/-- What the last point stores into the regulariser's cell: from the two products, the scales and the counts. -/
def regK (gv gu : Vec F S512x512 .f32) (x4 : Vec F S1x512 .f32) (cnt : Vec F S1x8 .f32) : Vec F S1x1 .f32 :=
  k0_pay2 v2K (rowK6 gv gu x4) (k0_pay17 k0_pay3 (gblk gu ![448, 448] inb_S512x512_S64x64_448_448)) (k0_pay18 k0_pay3 (gblk gv ![448, 448] inb_S512x512_S64x64_448_448)) (sblk x4 ![0, 448] inb_S1x512_S1x64_0_448) cnt

/-- A buffer written once through its whole shape reads as what was written. -/
theorem read_stored {S : Shape} {e : EltTy} (v : View sig .tc .vmem S e) (f : v.ty.Contents (Elt F)) {off : Fin S.rank → ℕ}
    (inb : ∀ a, off a + S.size a ≤ S.size a) (w : S.Idx → Elt F e) (h : ∀ a, off a = 0) :
    v.read (Elt F) (v.writes (Elt F) f [⟨Rect.unit off S.size inb, w⟩]) = w := by
  obtain rfl : off = fun _ => 0 := funext h
  exact View.read_writes_whole v f w

/-- A whole buffer that no store touched is handed back reading what it read. -/
theorem kept (c : Dev nD) {S : Shape} {e : EltTy} {a : Memref sig .tc .vmem S e} (h : a.IsWhole) (X : S.Idx → Elt F e) :
    (a.view.loc (c : Thread nD τ) ↦[a.view.set]{fullShare} h.unread X : sProp 𝕄)
      ⊢ iprop(∃ f, ⌜a.view.read (Elt F) f = X⌝ ∗ (a.view.loc (c : Thread nD τ) ↦[a.view.set]{fullShare} f)) := by
  iintro H
  iexists _; isplitr; swap; · iexact H
  ipureintro; exact h.read_unread X

/-- A buffer of which nothing is said is handed back with whatever it holds. -/
theorem unspoken (c : Dev nD) {S : Shape} {e : EltTy} (a : Memref sig .tc .vmem S e) (g : a.view.ty.Contents (Elt F)) :
    (a.view.loc (c : Thread nD τ) ↦[a.view.set]{fullShare} g : sProp 𝕄)
      ⊢ iprop(∃ X, ∃ f, ⌜a.view.read (Elt F) f = X⌝ ∗ (a.view.loc (c : Thread nD τ) ↦[a.view.set]{fullShare} f)) := by
  iintro H
  iexists _, _; isplitr; swap; · iexact H
  ipureintro; rfl

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 14#32)) 0#32) = 1#1
/-- It holds at point 14 only — by arithmetic of the point. -/
theorem hcond0_2 : ∀ t : Fin cfg0.N, cond0_2 (grid0.coords t) ↔ t.val % 16 = 14 :=
  (fun t => by
    have ht : t.val < 16 := Nat.lt_of_lt_of_eq t.isLt N_0
    have e0 : (grid0.coords t 0).val = t.val / 1 % 16 := Pipeline.Grid.coords_val t 0 (by decide) rfl
    simp only [cond0_2, e0]
    word_cmp
   : ∀ t : Fin grid0.N, cond0_2 (grid0.coords t) ↔ t.val % 16 = 14)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_3, k0_cond4, e0]
    word_cmp
   : ∀ t : Fin grid0.N, cond0_3 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S2048x512 .fp8e4m3 := Memref.whole cc0_scratch0
abbrev scM0_1 : Memref sig .tc .vmem S512x2048 .fp8e4m3 := Memref.whole cc0_scratch1
abbrev scM0_2 : Memref sig .tc .vmem S1x8 .f32 := Memref.whole cc0_scratch2
abbrev scM0_3 : Memref sig .tc .vmem S512x512 .f32 := Memref.whole cc0_scratch3
abbrev scM0_4 : Memref sig .tc .vmem S512x512 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.RunA.lean ====
/- The body run at the first point. -/
module

public import proofs.«01_k».proof.Proof.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at the first point, on whole staging and scratch buffers: what every buffer holds when it ends. -/
theorem runA (c : Dev nD) (i : grid0.Coords) (arg1 : Memref sig .tc .vmem S1024x1 .i32) (harg1 : arg1.IsWhole) (arg2 : Memref sig .tc .vmem S1024x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1 .f32) (harg7 : arg7.IsWhole) (arg8 : Memref sig .tc .vmem S2048x512 .fp8e4m3) (harg8 : arg8.IsWhole) (arg9 : Memref sig .tc .vmem S512x2048 .fp8e4m3) (harg9 : arg9.IsWhole) (arg10 : Memref sig .tc .vmem S1x8 .f32) (harg10 : arg10.IsWhole) (arg11 : Memref sig .tc .vmem S512x512 .f32) (harg11 : arg11.IsWhole) (arg12 : Memref sig .tc .vmem S512x512 .f32) (harg12 : arg12.IsWhole) (hc0 : cond0_0 i) (hc1 : ¬cond0_1 i) (hc2 : ¬cond0_2 i) (hc3 : ¬cond0_3 i)
    (x0 : Vec F S1024x1 .i32) (x1 : Vec F S1024x2048 .f32) (x2 : Vec F S2048x512 .bf16) (x3 : Vec F S512x2048 .bf16) (x4 : Vec F S1x512 .f32) (x6 : Vec F S1x1 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outK x0 x1 (k0_pay22 x2) (k0_pay23 x3) x4) ∗ owns (c : Thread nD τ) arg7 fullShare x6 ∗ owns (c : Thread nD τ) arg8 fullShare (k0_pay22 x2) ∗ owns (c : Thread nD τ) arg9 fullShare (k0_pay23 x3) ∗ owns (c : Thread nD τ) arg10 fullShare (k0_pay21 x0) ∗ (∃ d, owns (c : Thread nD τ) arg11 fullShare d) ∗ (∃ d, owns (c : Thread nD τ) arg12 fullShare d)) -∗ Q ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) Q := by
  simp only [cc0__body_eq_skeleton]; unfold cc0__body_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f1, %hf1, H0⟩, ⟨%f2, %hf2, H1⟩, ⟨%f3, %hf3, H2⟩, ⟨%f4, %hf4, H3⟩, ⟨%f5, %hf5, H4⟩, ⟨%d6, %f6, -, H5⟩, ⟨%f7, %hf7, H6⟩, ⟨%d8, %f8, -, H7⟩, ⟨%d9, %f9, -, H8⟩, ⟨%d10, %f10, -, H9⟩, ⟨%d11, %f11, -, H10⟩, ⟨%d12, %f12, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7
  sl_exec (disch := first | sl_exact hc0 | sl_exact hc1 | sl_exact hc2 | sl_exact hc3)
  sl_step
  iapply Hk
  isplitl [H0]
  · iapply (kept c harg1 _); iexact H0
  isplitl [H1]
  · iapply (kept c harg2 _); iexact H1
  isplitl [H2]
  · iapply (kept c harg3 _); iexact H2
  isplitl [H3]
  · iapply (kept c harg4 _); iexact H3
  isplitl [H4]
  · iapply (kept c harg5 _); iexact H4
  isplitl [H5]
  · iexists _; isplitr; swap; · iexact H5
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H6]
  · iapply (kept c harg7 _); iexact H6
  isplitl [H7]
  · iexists _; isplitr; swap; · iexact H7
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H8]
  · iexists _; isplitr; swap; · iexact H8
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H9]
  · iexists _; isplitr; swap; · iexact H9
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H10]
  · iapply (unspoken c _ _); iexact H10
  iapply (unspoken c _ _); iexact H11

end Cert.KernelIdeal.Hand

end
-- ==== Proof.RunB.lean ====
/- The body run at a point from 1 to 13. -/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at a point from 1 to 13, on whole staging and scratch buffers: what every buffer holds when it ends. -/
theorem runB (c : Dev nD) (i : grid0.Coords) (arg1 : Memref sig .tc .vmem S1024x1 .i32) (harg1 : arg1.IsWhole) (arg2 : Memref sig .tc .vmem S1024x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1 .f32) (harg7 : arg7.IsWhole) (arg8 : Memref sig .tc .vmem S2048x512 .fp8e4m3) (harg8 : arg8.IsWhole) (arg9 : Memref sig .tc .vmem S512x2048 .fp8e4m3) (harg9 : arg9.IsWhole) (arg10 : Memref sig .tc .vmem S1x8 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i) (hc2 : ¬cond0_2 i) (hc3 : ¬cond0_3 i)
    (x0 : Vec F S1024x1 .i32) (x1 : Vec F S1024x2048 .f32) (x2 : Vec F S2048x512 .bf16) (x3 : Vec F S512x2048 .bf16) (x4 : Vec F S1x512 .f32) (x6 : Vec F S1x1 .f32) (w8 : Vec F S2048x512 .fp8e4m3) (w9 : Vec F S512x2048 .fp8e4m3) (w10 : Vec F S1x8 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare w8 ∗ owns (c : Thread nD τ) arg9 fullShare w9 ∗ owns (c : Thread nD τ) arg10 fullShare w10 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outK x0 x1 w8 w9 x4) ∗ owns (c : Thread nD τ) arg7 fullShare x6 ∗ owns (c : Thread nD τ) arg8 fullShare w8 ∗ owns (c : Thread nD τ) arg9 fullShare w9 ∗ owns (c : Thread nD τ) arg10 fullShare (k0_pay24 x0 w10) ∗ (∃ d, owns (c : Thread nD τ) arg11 fullShare d) ∗ (∃ d, owns (c : Thread nD τ) arg12 fullShare d)) -∗ Q ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) Q := by
  simp only [cc0__body_eq_skeleton]; unfold cc0__body_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f1, %hf1, H0⟩, ⟨%f2, %hf2, H1⟩, ⟨%f3, %hf3, H2⟩, ⟨%f4, %hf4, H3⟩, ⟨%f5, %hf5, H4⟩, ⟨%d6, %f6, -, H5⟩, ⟨%f7, %hf7, H6⟩, ⟨%f8, %hf8, H7⟩, ⟨%f9, %hf9, H8⟩, ⟨%f10, %hf10, H9⟩, ⟨%d11, %f11, -, H10⟩, ⟨%d12, %f12, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10
  sl_exec (disch := first | sl_exact hc0 | sl_exact hc1 | sl_exact hc2 | sl_exact hc3)
  sl_step
  iapply Hk
  isplitl [H0]
  · iapply (kept c harg1 _); iexact H0
  isplitl [H1]
  · iapply (kept c harg2 _); iexact H1
  isplitl [H2]
  · iapply (kept c harg3 _); iexact H2
  isplitl [H3]
  · iapply (kept c harg4 _); iexact H3
  isplitl [H4]
  · iapply (kept c harg5 _); iexact H4
  isplitl [H5]
  · iexists _; isplitr; swap; · iexact H5
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H6]
  · iapply (kept c harg7 _); iexact H6
  isplitl [H7]
  · iapply (kept c harg8 _); iexact H7
  isplitl [H8]
  · iapply (kept c harg9 _); iexact H8
  isplitl [H9]
  · iexists _; isplitr; swap; · iexact H9
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H10]
  · iapply (unspoken c _ _); iexact H10
  iapply (unspoken c _ _); iexact H11

end Cert.KernelIdeal.Hand

end
-- ==== Proof.RunC.lean ====
/- The body run at point 14. -/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at point 14, on whole staging and scratch buffers: what every buffer holds when it ends. -/
theorem runC (c : Dev nD) (i : grid0.Coords) (arg1 : Memref sig .tc .vmem S1024x1 .i32) (harg1 : arg1.IsWhole) (arg2 : Memref sig .tc .vmem S1024x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1 .f32) (harg7 : arg7.IsWhole) (arg8 : Memref sig .tc .vmem S2048x512 .fp8e4m3) (harg8 : arg8.IsWhole) (arg9 : Memref sig .tc .vmem S512x2048 .fp8e4m3) (harg9 : arg9.IsWhole) (arg10 : Memref sig .tc .vmem S1x8 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i) (hc2 : cond0_2 i) (hc3 : ¬cond0_3 i)
    (x0 : Vec F S1024x1 .i32) (x1 : Vec F S1024x2048 .f32) (x2 : Vec F S2048x512 .bf16) (x3 : Vec F S512x2048 .bf16) (x4 : Vec F S1x512 .f32) (x6 : Vec F S1x1 .f32) (w8 : Vec F S2048x512 .fp8e4m3) (w9 : Vec F S512x2048 .fp8e4m3) (w10 : Vec F S1x8 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare w8 ∗ owns (c : Thread nD τ) arg9 fullShare w9 ∗ owns (c : Thread nD τ) arg10 fullShare w10 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outK x0 x1 w8 w9 x4) ∗ owns (c : Thread nD τ) arg7 fullShare x6 ∗ owns (c : Thread nD τ) arg8 fullShare w8 ∗ owns (c : Thread nD τ) arg9 fullShare w9 ∗ owns (c : Thread nD τ) arg10 fullShare (k0_pay24 x0 w10) ∗ owns (c : Thread nD τ) arg11 fullShare (k0_pay25 x2) ∗ owns (c : Thread nD τ) arg12 fullShare (k0_pay26 x3)) -∗ Q ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) Q := by
  simp only [cc0__body_eq_skeleton]; unfold cc0__body_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f1, %hf1, H0⟩, ⟨%f2, %hf2, H1⟩, ⟨%f3, %hf3, H2⟩, ⟨%f4, %hf4, H3⟩, ⟨%f5, %hf5, H4⟩, ⟨%d6, %f6, -, H5⟩, ⟨%f7, %hf7, H6⟩, ⟨%f8, %hf8, H7⟩, ⟨%f9, %hf9, H8⟩, ⟨%f10, %hf10, H9⟩, ⟨%d11, %f11, -, H10⟩, ⟨%d12, %f12, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10
  sl_exec (disch := first | sl_exact hc0 | sl_exact hc1 | sl_exact hc2 | sl_exact hc3)
  sl_step
  iapply Hk
  isplitl [H0]
  · iapply (kept c harg1 _); iexact H0
  isplitl [H1]
  · iapply (kept c harg2 _); iexact H1
  isplitl [H2]
  · iapply (kept c harg3 _); iexact H2
  isplitl [H3]
  · iapply (kept c harg4 _); iexact H3
  isplitl [H4]
  · iapply (kept c harg5 _); iexact H4
  isplitl [H5]
  · iexists _; isplitr; swap; · iexact H5
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H6]
  · iapply (kept c harg7 _); iexact H6
  isplitl [H7]
  · iapply (kept c harg8 _); iexact H7
  isplitl [H8]
  · iapply (kept c harg9 _); iexact H8
  isplitl [H9]
  · iexists _; isplitr; swap; · iexact H9
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H10]
  · iexists _; isplitr; swap; · iexact H10
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  iexists _; isplitr; swap; · iexact H11
  ipureintro
  refine (read_stored _ _ _ _ (by decide)).trans ?_
  sl_unfold_words
  simp (disch := decide) only [View.ld_unit_lit', View.readCov_unit_lit', View.readCov_cons_unit_lit', View.readAt_eq_ld, Memref.IsWhole.read_unread]
  all_goals rfl

end Cert.KernelIdeal.Hand

end
-- ==== Proof.RunD.lean ====
/- The body run at the last point. -/
module

public import proofs.«01_k».proof.Proof.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The body at the last point, on whole staging and scratch buffers: what every buffer holds when it ends. -/
theorem runD (c : Dev nD) (i : grid0.Coords) (arg1 : Memref sig .tc .vmem S1024x1 .i32) (harg1 : arg1.IsWhole) (arg2 : Memref sig .tc .vmem S1024x2048 .f32) (harg2 : arg2.IsWhole) (arg3 : Memref sig .tc .vmem S2048x512 .bf16) (harg3 : arg3.IsWhole) (arg4 : Memref sig .tc .vmem S512x2048 .bf16) (harg4 : arg4.IsWhole) (arg5 : Memref sig .tc .vmem S1x512 .f32) (harg5 : arg5.IsWhole) (arg6 : Memref sig .tc .vmem S1024x2048 .f32) (harg6 : arg6.IsWhole) (arg7 : Memref sig .tc .vmem S1x1 .f32) (harg7 : arg7.IsWhole) (arg8 : Memref sig .tc .vmem S2048x512 .fp8e4m3) (harg8 : arg8.IsWhole) (arg9 : Memref sig .tc .vmem S512x2048 .fp8e4m3) (harg9 : arg9.IsWhole) (arg10 : Memref sig .tc .vmem S1x8 .f32) (harg10 : arg10.IsWhole) (arg11 : Memref sig .tc .vmem S512x512 .f32) (harg11 : arg11.IsWhole) (arg12 : Memref sig .tc .vmem S512x512 .f32) (harg12 : arg12.IsWhole) (hc0 : ¬cond0_0 i) (hc1 : cond0_1 i) (hc2 : ¬cond0_2 i) (hc3 : cond0_3 i)
    (x0 : Vec F S1024x1 .i32) (x1 : Vec F S1024x2048 .f32) (x2 : Vec F S2048x512 .bf16) (x3 : Vec F S512x2048 .bf16) (x4 : Vec F S1x512 .f32) (x6 : Vec F S1x1 .f32) (w8 : Vec F S2048x512 .fp8e4m3) (w9 : Vec F S512x2048 .fp8e4m3) (w10 : Vec F S1x8 .f32) (w11 : Vec F S512x512 .f32) (w12 : Vec F S512x512 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare w8 ∗ owns (c : Thread nD τ) arg9 fullShare w9 ∗ owns (c : Thread nD τ) arg10 fullShare w10 ∗ owns (c : Thread nD τ) arg11 fullShare w11 ∗ owns (c : Thread nD τ) arg12 fullShare w12
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outK x0 x1 w8 w9 x4) ∗ owns (c : Thread nD τ) arg7 fullShare (regK w11 w12 x4 (k0_pay24 x0 w10)) ∗ owns (c : Thread nD τ) arg8 fullShare w8 ∗ owns (c : Thread nD τ) arg9 fullShare w9 ∗ owns (c : Thread nD τ) arg10 fullShare (k0_pay24 x0 w10) ∗ owns (c : Thread nD τ) arg11 fullShare w11 ∗ owns (c : Thread nD τ) arg12 fullShare w12) -∗ Q ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) Q := by
  simp only [cc0__body_eq_skeleton]; unfold cc0__body_skel
  simp only [k0_part7_eq_skeleton, k0_part1_eq_skeleton, k0_part2_eq_skeleton, k0_part3_eq_skeleton, k0_part4_eq_skeleton, k0_part5_eq_skeleton, k0_part6_eq_skeleton]
  unfold owns
  iintro ⟨⟨%f1, %hf1, H0⟩, ⟨%f2, %hf2, H1⟩, ⟨%f3, %hf3, H2⟩, ⟨%f4, %hf4, H3⟩, ⟨%f5, %hf5, H4⟩, ⟨%d6, %f6, -, H5⟩, ⟨%f7, %hf7, H6⟩, ⟨%f8, %hf8, H7⟩, ⟨%f9, %hf9, H8⟩, ⟨%f10, %hf10, H9⟩, ⟨%f11, %hf11, H10⟩, ⟨%f12, %hf12, H11⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H0]
  · iapply (kept c harg1 _); iexact H0
  isplitl [H1]
  · iapply (kept c harg2 _); iexact H1
  isplitl [H2]
  · iapply (kept c harg3 _); iexact H2
  isplitl [H3]
  · iapply (kept c harg4 _); iexact H3
  isplitl [H4]
  · iapply (kept c harg5 _); iexact H4
  isplitl [H5]
  · iexists _; isplitr; swap; · iexact H5
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H6]
  · iexists _; isplitr; swap; · iexact H6
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H7]
  · iapply (kept c harg8 _); iexact H7
  isplitl [H8]
  · iapply (kept c harg9 _); iexact H8
  isplitl [H9]
  · iexists _; isplitr; swap; · iexact H9
    ipureintro
    refine (read_stored _ _ _ _ (by decide)).trans ?_
    sl_unfold_words
    simp (disch := decide) only [View.ld_unit_lit', View.readCov_unit_lit', View.readCov_cons_unit_lit', View.readAt_eq_ld, Memref.IsWhole.read_unread]
    all_goals rfl
  isplitl [H10]
  · iapply (kept c harg11 _); iexact H10
  iapply (kept c harg12 _); iexact H11

end Cert.KernelIdeal.Hand

end
-- ==== Proof.Body.lean ====
/- What holds between the grid points, the body obligation at every point, the run of the whole program and the frame. -/
module

public import proofs.«01_k».proof.Proof.RunA
public import proofs.«01_k».proof.Proof.RunB
public import proofs.«01_k».proof.Proof.RunC
public import proofs.«01_k».proof.Proof.RunD
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := by have : cfg0.N = 16 := N_0; omega

/-- The grid's first point. -/
def t₀ : Fin cfg0.N := ⟨0, N_pos⟩

/-- The stacked factors and the scales as the windows stage them: the same block at every point. -/
def vRaw (c : Dev nD) : Vec F S2048x512 .bf16 := iblk m c 2 t₀
def uRaw (c : Dev nD) : Vec F S512x2048 .bf16 := iblk m c 3 t₀
def sRaw (c : Dev nD) : Vec F S1x512 .f32 := iblk m c 4 t₀

theorem iblk2 (c : Dev nD) (t : Fin cfg0.N) : iblk m c 2 t = vRaw m c := rfl
theorem iblk3 (c : Dev nD) (t : Fin cfg0.N) : iblk m c 3 t = uRaw m c := rfl
theorem iblk4 (c : Dev nD) (t : Fin cfg0.N) : iblk m c 4 t = sRaw m c := rfl

/-- The scratch copies of the stacked factors, and the two products of point 14. -/
def vAt (c : Dev nD) : Vec F S2048x512 .fp8e4m3 := k0_pay22 (vRaw m c)
def uAt (c : Dev nD) : Vec F S512x2048 .fp8e4m3 := k0_pay23 (uRaw m c)
def gvAt (c : Dev nD) : Vec F S512x512 .f32 := k0_pay25 (vRaw m c)
def guAt (c : Dev nD) : Vec F S512x512 .f32 := k0_pay26 (uRaw m c)

/-- The counts of the domains after point `n`. -/
def cntAt (c : Dev nD) : ℕ → Vec F S1x8 .f32
  | 0 => k0_pay21 (iblk m c 0 t₀)
  | n + 1 => if h : n + 1 < cfg0.N then k0_pay24 (iblk m c 0 ⟨n + 1, h⟩) (cntAt c n) else cntAt c n

theorem cntAt_first (c : Dev nD) (t : Fin cfg0.N) (h : t.val = 0) : cntAt m c t.val = k0_pay21 (iblk m c 0 t) := by
  obtain rfl : t = t₀ := Fin.ext h
  rfl

theorem cntAt_later (c : Dev nD) (t : Fin cfg0.N) (h : 1 ≤ t.val) :
    cntAt m c t.val = k0_pay24 (iblk m c 0 t) (cntAt m c (t.val - 1)) := by
  obtain ⟨_ | n, hn⟩ := t
  · exact absurd h (Nat.not_succ_le_zero 0)
  · show cntAt m c (n + 1) = k0_pay24 (iblk m c 0 ⟨n + 1, hn⟩) (cntAt m c n)
    rw [cntAt, dif_pos hn]

/-- What holds before point `n`: before the first the scratch buffers hold anything; afterwards the copies of the factors
    and the counts so far, and after point 14 the two products. -/
def PhiS (c : Dev nD) : (n : ℕ) → sProp 𝕄
  | 0 => Pipeline.ΦA spec0 c
  | n + 1 => iprop(iprop(owns (c : Thread nD τ) scM0_0 fullShare (vAt m c) ∗ owns (c : Thread nD τ) scM0_1 fullShare (uAt m c) ∗ owns (c : Thread nD τ) scM0_2 fullShare (cntAt m c n) ∗ (if 14 ≤ n then owns (c : Thread nD τ) scM0_3 fullShare (gvAt m c) else iprop(∃ d, owns (c : Thread nD τ) scM0_3 fullShare d)) ∗ (if 14 ≤ n then owns (c : Thread nD τ) scM0_4 fullShare (guAt m c) else iprop(∃ d, owns (c : Thread nD τ) scM0_4 fullShare d))) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (vAt m c) ∗ owns (c : Thread nD τ) scM0_1 fullShare (uAt m c) ∗ owns (c : Thread nD τ) scM0_2 fullShare (cntAt m c n) ∗ (if 14 ≤ n then owns (c : Thread nD τ) scM0_3 fullShare (gvAt m c) else iprop(∃ d, owns (c : Thread nD τ) scM0_3 fullShare d)) ∗ (if 14 ≤ n then owns (c : Thread nD τ) scM0_4 fullShare (guAt m c) else iprop(∃ d, owns (c : Thread nD τ) scM0_4 fullShare d))) ∗ (∃ r, prngReg c r)) := rfl

theorem PhiS_pos (c : Dev nD) (n : ℕ) (hz : n ≠ 0) :
    PhiS m c n = iprop(iprop(owns (c : Thread nD τ) scM0_0 fullShare (vAt m c) ∗ owns (c : Thread nD τ) scM0_1 fullShare (uAt m c) ∗ owns (c : Thread nD τ) scM0_2 fullShare (cntAt m c (n - 1)) ∗ (if 14 ≤ n - 1 then owns (c : Thread nD τ) scM0_3 fullShare (gvAt m c) else iprop(∃ d, owns (c : Thread nD τ) scM0_3 fullShare d)) ∗ (if 14 ≤ n - 1 then owns (c : Thread nD τ) scM0_4 fullShare (guAt m c) else iprop(∃ d, owns (c : Thread nD τ) scM0_4 fullShare d))) ∗ (∃ r, prngReg c r)) := by
  cases n with
  | zero => exact absurd rfl hz
  | succ n => rfl

/-- The proof data of the pipeline on core `c`: what each window's staging buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outK (iblk m c 0 t) (iblk m c 1 t) (vAt m c) (uAt m c) (sRaw m c)
    | ⟨6, _⟩ => regK (gvAt m c) (guAt m c) (sRaw m c) (cntAt m c t.val)
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outK (iblk m c 0 t) (iblk m c 1 t) (vAt m c) (uAt m c) (sRaw m c) := by dsimp only [dats]
theorem after0_6 (c : Dev nD) (t : Fin cfg0.N) :
    (dats m 0 c).after 6 t = regK (gvAt m c) (guAt m c) (sRaw m c) (cntAt m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem leaves0_0 (c : Dev nD) (t : Fin cfg0.N) :
    (dats m 0 c).leavesExact 0 t = owns (c : Thread nD τ) (ms0_0 t) fullShare ((dats m 0 c).after 0 t) := by
  unfold Dat.leavesExact; rw [show cfg0.idle 0 (cfg0.grid.coords t) = false from rfl]
theorem leaves0_1 (c : Dev nD) (t : Fin cfg0.N) :
    (dats m 0 c).leavesExact 1 t = owns (c : Thread nD τ) (ms0_1 t) fullShare ((dats m 0 c).after 1 t) := by
  unfold Dat.leavesExact; rw [show cfg0.idle 1 (cfg0.grid.coords t) = false from rfl]
theorem leaves0_2 (c : Dev nD) (t : Fin cfg0.N) :
    (dats m 0 c).leavesExact 2 t = owns (c : Thread nD τ) (ms0_2 t) fullShare ((dats m 0 c).after 2 t) := by
  unfold Dat.leavesExact; rw [show cfg0.idle 2 (cfg0.grid.coords t) = false from rfl]
theorem leaves0_3 (c : Dev nD) (t : Fin cfg0.N) :
    (dats m 0 c).leavesExact 3 t = owns (c : Thread nD τ) (ms0_3 t) fullShare ((dats m 0 c).after 3 t) := by
  unfold Dat.leavesExact; rw [show cfg0.idle 3 (cfg0.grid.coords t) = false from rfl]
theorem leaves0_4 (c : Dev nD) (t : Fin cfg0.N) :
    (dats m 0 c).leavesExact 4 t = owns (c : Thread nD τ) (ms0_4 t) fullShare ((dats m 0 c).after 4 t) := by
  unfold Dat.leavesExact; rw [show cfg0.idle 4 (cfg0.grid.coords t) = false from rfl]
theorem leaves0_5 (c : Dev nD) (t : Fin cfg0.N) :
    (dats m 0 c).leavesExact 5 t = owns (c : Thread nD τ) (ms0_5 t) fullShare ((dats m 0 c).after 5 t) := by
  unfold Dat.leavesExact; rw [show cfg0.idle 5 (cfg0.grid.coords t) = false from rfl]
theorem leaves0_6_idle (c : Dev nD) (t : Fin cfg0.N) (h : ¬t.val % 16 = 15) :
    (dats m 0 c).leavesExact 6 t = iprop(∃ d, owns (c : Thread nD τ) (ms0_6 t) fullShare ((dats m 0 c).before 6 t d)) := by
  refine Dat.leavesExact_idle _ 6 t ?_ (by rw [← Bool.not_eq_true, flush0_6]; exact h)
  have h' : ¬k0_cond4 (grid0.coords t) = 1#1 := fun e => h ((hcond0_3 t).mp e)
  show (!(k0_cond4 (grid0.coords t) == 1#1)) = true
  rw [beq_eq_false_iff_ne.mpr h']; rfl
theorem leaves0_6_last (c : Dev nD) (t : Fin cfg0.N) (h : t.val % 16 = 15) :
    (dats m 0 c).leavesExact 6 t = owns (c : Thread nD τ) (ms0_6 t) fullShare ((dats m 0 c).after 6 t) := by
  have h' : k0_cond4 (grid0.coords t) = 1#1 := (hcond0_3 t).mpr h
  unfold Dat.leavesExact
  rw [show cfg0.idle 6 (cfg0.grid.coords t) = false from by
    show (!(k0_cond4 (grid0.coords t) == 1#1)) = false
    rw [h']; rfl]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem soundA (c : Dev nD) (t : Fin cfg0.N) (h0 : t.val = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [leaves0_0, leaves0_1, leaves0_2, leaves0_3, leaves0_4, leaves0_5, leaves0_6_idle m c t (by omega), after0_0, after0_1, after0_2, after0_3, after0_4, after0_5]
  rw [cntAt_first m c t h0, if_neg (by omega), if_neg (by omega)]
  rw [PhiS_castSucc m c t, PhiS_zero m c _ h0, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr (by omega)) (fun h => absurd ((hcond0_1 t).mp h) (by omega)) (fun h => absurd ((hcond0_2 t).mp h) (by omega)) (fun h => absurd ((hcond0_3 t).mp h) (by omega))
    (iblk m c 0 t) (iblk m c 1 t) (vRaw m c) (uRaw m c) (sRaw m c) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
theorem soundB (c : Dev nD) (t : Fin cfg0.N) (h0 : 1 ≤ t.val) (h1 : t.val < 14) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [leaves0_0, leaves0_1, leaves0_2, leaves0_3, leaves0_4, leaves0_5, leaves0_6_idle m c t (by omega), after0_0, after0_1, after0_2, after0_3, after0_4, after0_5]
  rw [cntAt_later m c t (by omega), if_neg (by omega), if_neg (by omega)]
  rw [PhiS_castSucc m c t, PhiS_pos m c _ (by omega), if_neg (by omega), if_neg (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => absurd ((hcond0_0 t).mp h) (by omega)) ((hcond0_1 t).mpr (by omega)) (fun h => absurd ((hcond0_2 t).mp h) (by omega)) (fun h => absurd ((hcond0_3 t).mp h) (by omega))
    (iblk m c 0 t) (iblk m c 1 t) (vRaw m c) (uRaw m c) (sRaw m c) ((dats m 0 c).before 6 t d6) (vAt m c) (uAt m c) (cntAt m c (t.val - 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
theorem soundC (c : Dev nD) (t : Fin cfg0.N) (h0 : t.val = 14) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [leaves0_0, leaves0_1, leaves0_2, leaves0_3, leaves0_4, leaves0_5, leaves0_6_idle m c t (by omega), after0_0, after0_1, after0_2, after0_3, after0_4, after0_5]
  rw [cntAt_later m c t (by omega), if_pos (by omega), if_pos (by omega)]
  rw [PhiS_castSucc m c t, PhiS_pos m c _ (by omega), if_neg (by omega), if_neg (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => absurd ((hcond0_0 t).mp h) (by omega)) ((hcond0_1 t).mpr (by omega)) ((hcond0_2 t).mpr (by omega)) (fun h => absurd ((hcond0_3 t).mp h) (by omega))
    (iblk m c 0 t) (iblk m c 1 t) (vRaw m c) (uRaw m c) (sRaw m c) ((dats m 0 c).before 6 t d6) (vAt m c) (uAt m c) (cntAt m c (t.val - 1)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4000000 in
theorem soundD (c : Dev nD) (t : Fin cfg0.N) (h0 : t.val = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_succ]
  rw [leaves0_0, leaves0_1, leaves0_2, leaves0_3, leaves0_4, leaves0_5, leaves0_6_last m c t (by omega), after0_6, after0_0, after0_1, after0_2, after0_3, after0_4, after0_5]
  rw [cntAt_later m c t (by omega), if_pos (by omega), if_pos (by omega)]
  rw [PhiS_castSucc m c t, PhiS_pos m c _ (by omega), if_pos (by omega), if_pos (by omega)]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => absurd ((hcond0_0 t).mp h) (by omega)) ((hcond0_1 t).mpr (by omega)) (fun h => absurd ((hcond0_2 t).mp h) (by omega)) ((hcond0_3 t).mpr (by omega))
    (iblk m c 0 t) (iblk m c 1 t) (vRaw m c) (uRaw m c) (sRaw m c) ((dats m 0 c).before 6 t d6) (vAt m c) (uAt m c) (cntAt m c (t.val - 1)) (gvAt m c) (guAt m c) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at every point: one of the four cases. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  by_cases h0 : t.val = 0
  · exact soundA m c t h0
  by_cases h1 : t.val = 14
  · exact soundC m c t h1
  by_cases h2 : t.val = 15
  · exact soundD m c t h2
  exact soundB m c t (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  have hN : cfg0.N = 16 := N_0
  rw [show (dats m 0 c).Φ (Fin.last cfg0.N) = PhiS m c cfg0.N from rfl, PhiS_pos m c _ (by omega), if_pos (by omega), if_pos (by omega), PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option backward.isDefEq.respectTransparency.types false in
set_option maxHeartbeats 800000 in
/-- Every execution ends with each array at what the grid's points wrote to it, every other buffer at what the host lines
    leave, and the counters at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Algebra.lean ====
module

public import proofs.«01_k».proof.Proof.Body
public import Idealize.ShloMosaic.Lib.Pipeline.ValueKit
public import Idealize.ShloMosaic.Lib.IdealHost

@[expose] public section

/-! Arithmetic of the extended reals and of 32-bit words that both results use: the literals as real
    numbers, a finite positive factor through a sum, and the domain a column belongs to. -/

set_option maxRecDepth 16384

namespace Cert.KernelIdeal.Hand

open Idealize.ShloMosaic
open scoped BigOperators

/-- The 16-bit literal the projections are scaled by is sixteen. -/
theorem lit_sixteen_bf16 : Ideal.ofBits .bf16 16768#16 = ((16 : ℝ) : EReal) := by
  simp [Ideal.ofBits, Ideal.ieee, -EReal.coe_mul]; norm_num

/-- The 32-bit literal the scales are divided by is sixteen. -/
theorem lit_sixteen_f32 : Ideal.ofBits .f32 1098907648#32 = ((16 : ℝ) : EReal) := by
  simp [Ideal.ofBits, Ideal.ieee, -EReal.coe_mul]; norm_num

/-- The kernel's weight of the scale term, as a real. -/
theorem lit_weight_kernel : Ideal.ofBits .f32 0x3FCCCCCD#32 = ((13421773 / 8388608 : ℝ) : EReal) := by
  simp [Ideal.ofBits, Ideal.ieee, -EReal.coe_mul]; norm_num

/-- The reference's weight of the scale term, as a real. -/
theorem lit_weight_ref : Ideal.ofBits .f32 0x3DCCCCCD#32 = ((13421773 / 134217728 : ℝ) : EReal) := by
  simp [Ideal.ofBits, Ideal.ieee, -EReal.coe_mul]; norm_num

/-- The 32-bit literal sixty-four. -/
theorem lit_sixtyfour : Ideal.ofBits .f32 0x42800000#32 = ((64 : ℝ) : EReal) := by
  simp [Ideal.ofBits, Ideal.ieee, -EReal.coe_mul]; norm_num

/-- A finite non-negative factor goes out of a sum on the right. -/
theorem sum_mul_coe {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- A quotient by a non-zero real is a product with its inverse. -/
theorem div_coe (x : EReal) {c : ℝ} (hc : c ≠ 0) : Ideal.div x (c : EReal) = x * ((c⁻¹ : ℝ) : EReal) := by
  unfold Ideal.div
  rw [if_neg (by simpa using hc), EReal.coe_inv]

/-- The domain number the kernel computes for a column is the column's index divided by 64. -/
theorem column_domain (x : Fin 512) :
    (Scalar.select (IntOp.andi (IntOp.cmpi .ne (IntOp.subi (BitVec.setWidth 32 (IntOp.cmpi .sgt (BitVec.ofNat 32 ↑x) 0#32)) (BitVec.setWidth 32 (IntOp.cmpi .slt (BitVec.ofNat 32 ↑x) 0#32))) (Scalar.subi (Scalar.extui (Scalar.cmpi .sgt 64#32 0#32)) (Scalar.extui (Scalar.cmpi .slt 64#32 0#32)))) (IntOp.cmpi .ne (IntOp.remsi ArithUnit.vector (BitVec.ofNat 32 ↑x) 64#32) 0#32))
     (IntOp.subi (IntOp.divsi ArithUnit.vector (BitVec.ofNat 32 ↑x) 64#32) 1#32) (IntOp.divsi ArithUnit.vector (BitVec.ofNat 32 ↑x) 64#32))
      = BitVec.ofNat 32 (x.val / 64) := by
  revert x; decide +kernel

/-- Scaling the projection by sixteen and the scale by a sixteenth changes nothing. -/
theorem scaled_product {n : ℕ} (x v : Fin n → EReal) (s u : EReal) :
    (∑ k, x k * (v k * Ideal.ofBits .bf16 16768#16)) * Ideal.div s (Ideal.ofBits .f32 1098907648#32) * u
      = (∑ k, x k * v k) * s * u := by
  rw [lit_sixteen_bf16, lit_sixteen_f32, div_coe _ (by norm_num)]
  simp only [← mul_assoc]
  rw [sum_mul_coe _ _ (by norm_num)]
  congr 1
  rw [mul_assoc (∑ k, x k * v k), mul_comm ((16 : ℝ) : EReal) s, ← mul_assoc, mul_assoc (_ * s), ← EReal.coe_mul]
  norm_num

/-- A choice between a sum and zero is the sum of the choices. -/
theorem select_sum {n : ℕ} (b : BitVec 1) (f : Fin n → EReal) :
    ∑ r, Scalar.select b (f r) 0 = Scalar.select b (∑ r, f r) 0 := by
  unfold Scalar.select
  split_ifs <;> simp

/-- A sum over the 512 columns is a sum over the eight domains of sums over their 64 columns. -/
theorem sum_columns (f : Fin 8 → Fin 64 → EReal) :
    ∑ q : Fin 512, f ⟨q.val / 64, by omega⟩ ⟨q.val % 64, by omega⟩ = ∑ d, ∑ r, f d r := by
  rw [← Fintype.sum_prod_type']
  exact Fintype.sum_equiv (finProdFinEquiv (m := 8) (n := 64)).symm _ _ fun q => rfl

end Cert.KernelIdeal.Hand

namespace Cert.Common

open Idealize.ShloMosaic
open scoped BigOperators

/-- The first result at token `n` and feature `j`: the token's own feature plus, for the token's domain,
    its features through that domain's input projection, scale and output projection. -/
noncomputable def outAt (X : Fin 16384 → Fin 2048 → EReal) (D : Fin 16384 → BitVec 32) (U V : Fin 8 → Fin 2048 → Fin 64 → EReal)
    (S : Fin 8 → Fin 64 → EReal) (n : Fin 16384) (j : Fin 2048) : EReal :=
  X n j + ∑ d : Fin 8, Scalar.select (IntOp.cmpi .eq (D n) (BitVec.ofNat 32 d.val))
    (∑ r : Fin 64, (∑ k : Fin 2048, X n k * V d k r) * S d r * U d j r) 0

end Cert.Common
-- ==== Proof.OutBlock.lean ====
module

public import proofs.«01_k».proof.Proof.Algebra

@[expose] public section

/-! The output block of one grid point over the extended reals, element by element. -/

set_option maxRecDepth 16384

noncomputable section

namespace Cert.KernelIdeal.Hand

open Idealize.ShloMosaic Idealize.ShloMosaic.TcCoe Idealize.ShloMosaic.Tactic
open Cert.KernelIdeal.Gen

/-- One element of an output block: the token's own feature, and over the 512 columns of the stacked
    projections the products of the columns that belong to the token's domain. -/
theorem outK_apply (x0 : Vec Ideal S1024x1 .i32) (x1 : Vec Ideal S1024x2048 .f32) (x2 : Vec Ideal S2048x512 .bf16)
    (x3 : Vec Ideal S512x2048 .bf16) (x4 : Vec Ideal S1x512 .f32) (r : Fin 1024) (j : Fin 2048) :
    outK x0 x1 (k0_pay22 x2) (k0_pay23 x3) x4 (ix2 r j)
      = (x1 (ix2 r j) : EReal) + ∑ q : Fin 512, Scalar.select (IntOp.cmpi .eq (x0 (ix2 r (0 : Fin 1))) (BitVec.ofNat 32 (q.val / 64)))
          ((∑ k : Fin 2048, (x1 (ix2 r k) : EReal) * ((x2 (ix2 k q) : EReal) * Ideal.ofBits .bf16 16768#16)) * (x4 (ix2 (0 : Fin 1) q) : EReal)
            * (x3 (ix2 q j) : EReal)) 0 := by
  unfold outK
  unfold_payloads
  pointwise
  simp only [column_domain]

end Cert.KernelIdeal.Hand

end
-- ==== Proof.Reads.lean ====
module

public import proofs.«01_k».proof.Proof.OutBlock

@[expose] public section

/-! What the kernel's input blocks hold, in terms of the arguments. -/

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

/-- The token of row `r` at grid point `t`. -/
def tok (t : Fin cfg0.N) (r : Fin 1024) : Fin 16384 := ⟨t.val * 1024 + r.val, by
  have h : t.val < 16 := lt_of_lt_of_eq t.isLt N_0
  omega⟩

/-- The domain of column `q` of the stacked projections. -/
def cd (q : Fin 512) : Fin 8 := ⟨q.val / 64, by omega⟩
/-- The rank coordinate of column `q` of the stacked projections. -/
def cr (q : Fin 512) : Fin 64 := ⟨q.val % 64, by omega⟩

/-- The windows' index maps at every point. -/
theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] :=
  (by decide +kernel : ∀ t : Fin grid0.N, _)

/-- The features block at a point is the point's 1024 rows. -/
theorem feats_apply (t : Fin cfg0.N) (r : Fin 1024) (k : Fin 2048) :
    (iblk m c 1 t : Vec Ideal S1024x2048 .f32) (ix2 r k)
      = (m ((c : Thread nD τ).loc main_arg0) : Vec Ideal S16384x2048 .f32) (ix2 (tok t r) k) := by
  blk_simp [iblk]
  entry_read
  pointwise
  blk_ext [idx0 t, tok]

theorem V_ids : V m c main_call0_v9 = shapeCast S16384x1 (m ((c : Thread nD τ).loc main_arg1)) shapeCasts_S16384_S16384x1 := by
  entry_read
  rfl
theorem V_vcat : V m c main_call0_v2 = truncf (F := Ideal) (φ := .f32) .bf16 (shapeCast S2048x512 (transpose S2048x8x64 [1, 0, 2]
    (m ((c : Thread nD τ).loc main_arg3)) transposes_S8x2048x64_S2048x8x64_1_0_2) shapeCasts_S2048x8x64_S2048x512) bitsLt_bf16_f32 := by
  entry_read
  rfl
theorem V_ustack : V m c main_call0_v5 = truncf (F := Ideal) (φ := .f32) .bf16 (shapeCast S512x2048 (transpose S8x64x2048 [0, 2, 1]
    (m ((c : Thread nD τ).loc main_arg2)) transposes_S8x2048x64_S8x64x2048_0_2_1) shapeCasts_S8x64x2048_S512x2048) bitsLt_bf16_f32 := by
  entry_read
  rfl
theorem V_scale : V m c main_call0_v8 = shapeCast S1x512 (Host.divf (F := Ideal) (φ := .f32) (m ((c : Thread nD τ).loc main_arg4))
    (broadcastInDim S8x64 ![] bcast_S_S8x64 (constant S_ .f32 0x41800000#32))) shapeCasts_S8x64_S1x512 := by
  entry_read
  rfl

/-- The block of domain numbers at a point is the point's 1024 tokens'. -/
theorem ids_apply (t : Fin cfg0.N) (r : Fin 1024) :
    (iblk m c 0 t : Vec Ideal S1024x1 .i32) (ix2 r (0 : Fin 1))
      = (m ((c : Thread nD τ).loc main_arg1) : Vec Ideal S16384 .i32) (ix1 (tok t r)) := by
  change (V m c main_call0_v9 : Vec Ideal S16384x1 .i32) (((cfg0.win 0).blk t).view.emb (ix2 r (0 : Fin 1))) = _
  have e : ((cfg0.win 0).blk t).view.emb (ix2 r (0 : Fin 1)) = (ix2 (tok t r) (0 : Fin 1) : S16384x1.Idx) := by
    blk_ext [idx0 t, tok]
  rw [V_ids, e]
  pointwise

/-- The stacked input projections: column `q` is column `q % 64` of domain `q / 64`'s matrix. -/
theorem vRaw_apply (k : Fin 2048) (q : Fin 512) :
    (vRaw m c : Vec Ideal S2048x512 .bf16) (ix2 k q)
      = (m ((c : Thread nD τ).loc main_arg3) : Vec Ideal S8x2048x64 .f32) (ix3 (cd q) k (cr q)) := by
  change (V m c main_call0_v2 : Vec Ideal S2048x512 .bf16) (((cfg0.win 2).blk t₀).view.emb (ix2 k q)) = _
  have e : ((cfg0.win 2).blk t₀).view.emb (ix2 k q) = (ix2 k q : S2048x512.Idx) := by
    blk_ext [idx0 t₀]
  rw [V_vcat, e]
  pointwise
  blk_ext [cd, cr]

/-- The stacked output projections. -/
theorem uRaw_apply (q : Fin 512) (j : Fin 2048) :
    (uRaw m c : Vec Ideal S512x2048 .bf16) (ix2 q j)
      = (m ((c : Thread nD τ).loc main_arg2) : Vec Ideal S8x2048x64 .f32) (ix3 (cd q) j (cr q)) := by
  change (V m c main_call0_v5 : Vec Ideal S512x2048 .bf16) (((cfg0.win 3).blk t₀).view.emb (ix2 q j)) = _
  have e : ((cfg0.win 3).blk t₀).view.emb (ix2 q j) = (ix2 q j : S512x2048.Idx) := by
    blk_ext [idx0 t₀]
  rw [V_ustack, e]
  pointwise
  blk_ext [cd, cr]

/-- Dividing and flattening the table of scales, at one column. -/
theorem scale_flat (x : FVec Ideal S8x64 .f32) (q : Fin 512) :
    (shapeCast S1x512 (Host.divf x (broadcastInDim S8x64 ![] bcast_S_S8x64 (constant S_ .f32 0x41800000#32))) shapeCasts_S8x64_S1x512
      : FVec Ideal S1x512 .f32) (ix2 (0 : Fin 1) q)
      = Ideal.div (x (ix2 (cd q) (cr q))) (Ideal.ofBits .f32 1098907648#32) := by
  pointwise
  rfl

/-- The flattened scales, each divided by sixteen. -/
theorem sRaw_apply (q : Fin 512) :
    (sRaw m c : Vec Ideal S1x512 .f32) (ix2 (0 : Fin 1) q)
      = Ideal.div ((m ((c : Thread nD τ).loc main_arg4) : Vec Ideal S8x64 .f32) (ix2 (cd q) (cr q))) (Ideal.ofBits .f32 1098907648#32) := by
  change (V m c main_call0_v8 : Vec Ideal S1x512 .f32) (((cfg0.win 4).blk t₀).view.emb (ix2 (0 : Fin 1) q)) = _
  have e : ((cfg0.win 4).blk t₀).view.emb (ix2 (0 : Fin 1) q) = (ix2 (0 : Fin 1) q : S1x512.Idx) := by
    blk_ext [idx0 t₀]
  rw [V_scale, e]
  exact scale_flat _ q

end Cert.KernelIdeal.Hand

end
-- ==== Proof.OutFinal.lean ====
module

public import proofs.«01_k».proof.Proof.Reads

@[expose] public section

/-! The kernel's first result array after the run: the common formula of the arguments. -/

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

/-- The features, the tokens' domains, the output and input projections and the scales, by coordinates. -/
def argX (n : Fin 16384) (j : Fin 2048) : EReal := (m ((c : Thread nD τ).loc main_arg0) : Vec Ideal S16384x2048 .f32) (ix2 n j)
def argD (n : Fin 16384) : BitVec 32 := (m ((c : Thread nD τ).loc main_arg1) : Vec Ideal S16384 .i32) (ix1 n)
def argU (d : Fin 8) (k : Fin 2048) (r : Fin 64) : EReal := (m ((c : Thread nD τ).loc main_arg2) : Vec Ideal S8x2048x64 .f32) (ix3 d k r)
def argV (d : Fin 8) (k : Fin 2048) (r : Fin 64) : EReal := (m ((c : Thread nD τ).loc main_arg3) : Vec Ideal S8x2048x64 .f32) (ix3 d k r)
def argS (d : Fin 8) (r : Fin 64) : EReal := (m ((c : Thread nD τ).loc main_arg4) : Vec Ideal S8x64 .f32) (ix2 d r)

/-- One element of the block a grid point writes. -/
theorem out_point (t : Fin cfg0.N) (r : Fin 1024) (j : Fin 2048) :
    outK (iblk m c 0 t) (iblk m c 1 t) (vAt m c) (uAt m c) (sRaw m c) (ix2 r j)
      = Cert.Common.outAt (argX m c) (argD m c) (argU m c) (argV m c) (argS m c) (tok t r) j := by
  refine (outK_apply (iblk m c 0 t) (iblk m c 1 t) (vRaw m c) (uRaw m c) (sRaw m c) r j).trans ?_
  simp only [feats_apply, ids_apply, vRaw_apply, uRaw_apply, sRaw_apply, scaled_product]
  unfold Cert.Common.outAt
  congr 1
  simp only [← select_sum]
  exact sum_columns fun d r => Scalar.select (IntOp.cmpi .eq (argD m c (tok t _)) (BitVec.ofNat 32 d.val))
    ((∑ k : Fin 2048, argX m c (tok t _) k * argV m c d k r) * argS m c d r * argU m c d j r) 0

/-- The first result array after the run. -/
theorem out_final : (dats m 0 c).arrAt 5 (cfgs 0).N
    = fun i : S16384x2048.Idx => Cert.Common.outAt (argX m c) (argD m c) (argU m c) (argV m c) (argS m c) (i 0) (i 1) := by
  refine (dats m 0 c).arrAt_eq_of_covers 5 _ (by decide +kernel) fun t hf y => ?_
  blk_simp
  rw [after0_5]
  have e : ((win0_5.blk t).view.emb y : S16384x2048.Idx) = ix2 (tok t (y 0)) (y 1) := by
    blk_ext [idx0 t, tok]
  rw [e]
  obtain ⟨r, j, rfl⟩ : ∃ (r : Fin 1024) (j : Fin 2048), y = ix2 r j := ⟨y 0, y 1, by blk_ext []⟩
  exact out_point m c t r j

end Cert.KernelIdeal.Hand

end
-- ==== Proof.RefOut.lean ====
module

public import proofs.«01_k».proof.Proof.OutFinal
public import proofs.«01_k».proof.Proof.Gen.ReferenceIdeal.Run
public import Idealize.ShloMosaic.Lib.Tactic.CleanTypes

@[expose] public section

/-! The reference's first result over the extended reals, element by element. -/

set_option maxRecDepth 16384

noncomputable section

namespace Cert.ReferenceIdeal.Hand

open Idealize.ShloMosaic Idealize.ShloMosaic.TcCoe Idealize.ShloMosaic.Tactic
open Cert.ReferenceIdeal Cert.ReferenceIdeal.Value

/-- The reference's first result is the common formula of the arguments. -/
theorem out_apply (W : Valuation τ sig (Elt Ideal)) (n : Fin 16384) (j : Fin 2048) :
    (res_main_v373 W : Vec Ideal S16384x2048 .f32) (ix2 n j)
      = Cert.Common.outAt (fun n j => (W (Proc.devRef .tc main_arg0) : Vec Ideal S16384x2048 .f32) (ix2 n j))
          (fun n => (W (Proc.devRef .tc main_arg1) : Vec Ideal S16384 .i32) (ix1 n))
          (fun d k r => (W (Proc.devRef .tc main_arg2) : Vec Ideal S8x2048x64 .f32) (ix3 d k r))
          (fun d k r => (W (Proc.devRef .tc main_arg3) : Vec Ideal S8x2048x64 .f32) (ix3 d k r))
          (fun d r => (W (Proc.devRef .tc main_arg4) : Vec Ideal S8x64 .f32) (ix2 d r)) n j := by
  unfold res_main_v373 res_main_v173 res_main_v7 res_main_v57 res_main_v107 res_main_v157 res_main_v207 res_main_v257 res_main_v307 res_main_v357
  clean_types
  pointwise
  unfold Cert.Common.outAt
  rw [Fin.sum_univ_eight]
  simp only [← add_assoc]
  rfl

end Cert.ReferenceIdeal.Hand

end
-- ==== Proof.RegBlock.lean ====
module

public import proofs.«01_k».proof.Proof.RefOut

@[expose] public section

/-! The kernel's regulariser over the extended reals, as a formula of the two Gram matrices, the scales and the counts. -/

set_option maxRecDepth 16384

noncomputable section

namespace Cert.Common

open Idealize.ShloMosaic
open scoped BigOperators

/-- An entry of the identity matrix of size 64. -/
def eyeAt (x y : Fin 64) : EReal := if x = y then 1 else 0

/-- The mean square, over the 64 × 64 entries, of how far domain `d`'s projection is from orthonormal columns. -/
def gramErr (M : Fin 8 → Fin 2048 → Fin 64 → EReal) (d : Fin 8) : EReal :=
  Ideal.div (∑ x : Fin 64, ∑ y : Fin 64, ((∑ k : Fin 2048, M d k x * M d k y) - eyeAt x y) * ((∑ k : Fin 2048, M d k x * M d k y) - eyeAt x y))
    (Ideal.ofBits .f32 1166016512#32)

/-- Domain `d`'s penalty: the two projections' distances from orthonormality, and a tenth of the mean size of its scales. -/
def penAt (U V : Fin 8 → Fin 2048 → Fin 64 → EReal) (S : Fin 8 → Fin 64 → EReal) (d : Fin 8) : EReal :=
  gramErr U d + gramErr V d
    + Ideal.ofBits .f32 1036831949#32 * Ideal.div (∑ r : Fin 64, max (S d r) (-(S d r))) (Ideal.ofBits .f32 1115684864#32)

open Classical in
/-- One if some token belongs to domain `d`, else zero. -/
def usedAt (D : Fin 16384 → BitVec 32) (d : Fin 8) : EReal := if ∃ n, D n = BitVec.ofNat 32 d.val then 1 else 0

/-- The second result: the mean over the eight domains of the penalties of those that occur. -/
def regAt (D : Fin 16384 → BitVec 32) (U V : Fin 8 → Fin 2048 → Fin 64 → EReal) (S : Fin 8 → Fin 64 → EReal) : EReal :=
  Ideal.div (∑ d : Fin 8, usedAt D d * penAt U V S d) (Ideal.ofBits .f32 1090519040#32)

/-- Two coordinates below 64 agree as words only when they agree. -/
theorem ofNat_eq_iff (x y : Fin 64) : BitVec.ofNat 32 x.val = BitVec.ofNat 32 y.val ↔ x = y := by
  constructor
  · intro h
    have := congrArg BitVec.toNat h
    simp only [BitVec.toNat_ofNat] at this
    exact Fin.ext (by omega)
  · rintro rfl; rfl

/-- A comparison of two words for equality, read as a number, is one where they agree and zero elsewhere. -/
theorem indicator (a b : BitVec 32) :
    (FloatOps.sitofp (F := Ideal) .f32 (BitVec.setWidth 32 (IntOp.cmpi .eq a b)) : EReal) = if a = b then 1 else 0 := by
  split_ifs with h
  · rw [show IntOp.cmpi .eq a b = 1#1 by subst h; simp [IntOp.cmpi]]
    change (((BitVec.setWidth 32 1#1).toInt : ℝ) : EReal) = 1
    norm_num
  · rw [show IntOp.cmpi .eq a b = 0#1 by
      change BitVec.ofBool (a == b) = 0#1
      rw [beq_false_of_ne h]; rfl]
    change (((BitVec.setWidth 32 0#1).toInt : ℝ) : EReal) = 0
    norm_num

end Cert.Common

namespace Cert.KernelIdeal.Hand

open Idealize.ShloMosaic Idealize.ShloMosaic.TcCoe Idealize.ShloMosaic.Tactic
open Cert.KernelIdeal.Gen Cert.Common
open scoped BigOperators

/-- Column `x` of domain `d` in the stacked projections. -/
def col (d : Fin 8) (x : Fin 64) : Fin 512 := ⟨64 * d.val + x.val, by omega⟩

/-- The kernel's identity matrix, whose entries are comparisons of row and column numbers read as numbers. -/
theorem eye_kernel (x y : Fin 64) :
    (FloatOps.sitofp (F := Ideal) .f32 (BitVec.setWidth 32 (IntOp.cmpi .eq (BitVec.ofNat 32 x.val) (BitVec.ofNat 32 y.val))) : EReal) = eyeAt x y := by
  rw [indicator]
  exact if_congr (ofNat_eq_iff x y) rfl rfl

/-- Domain `d`'s penalty as the kernel computes it from the Gram matrices' diagonal blocks and the scales. -/
def penK (gv gu : Vec Ideal S512x512 .f32) (x4 : Vec Ideal S1x512 .f32) (d : Fin 8) : EReal :=
  Ideal.div (∑ x : Fin 64, ∑ y : Fin 64, ((gu (ix2 (col d x) (col d y)) : EReal) - eyeAt x y) * ((gu (ix2 (col d x) (col d y)) : EReal) - eyeAt x y))
      (Ideal.ofBits .f32 1166016512#32)
    + Ideal.div (∑ x : Fin 64, ∑ y : Fin 64, ((gv (ix2 (col d x) (col d y)) : EReal) - eyeAt x y) * ((gv (ix2 (col d x) (col d y)) : EReal) - eyeAt x y))
      (Ideal.ofBits .f32 1166016512#32)
    + Ideal.ofBits .f32 1070386381#32
      * Ideal.div (∑ x : Fin 64, max (x4 (ix2 (0 : Fin 1) (col d x)) : EReal) (-(x4 (ix2 (0 : Fin 1) (col d x)) : EReal))) (Ideal.ofBits .f32 1115684864#32)

/-- The kernel's row of penalties holds `p` at lane `d` and zero elsewhere. -/
def lane (d e : Fin 8) (p : EReal) : EReal := Scalar.select (IntOp.cmpi .eq (BitVec.ofNat 32 d.val) (BitVec.ofNat 32 e.val)) p 0

section
variable (gv gu : Vec Ideal S512x512 .f32) (x4 : Vec Ideal S1x512 .f32) (d : Fin 8)

theorem rowK0_apply : (rowK0 gv gu x4 (ix2 (0 : Fin 1) d) : EReal) = lane d 0 (penK gv gu x4 0) := by
  unfold rowK0 gblk sblk v2K
  unfold_payloads
  pointwise
  simp only [eye_kernel, col, lane, penK, Fin.val_zero, Nat.mul_zero, Nat.zero_add]
  rfl

theorem rowK1_apply : (rowK1 gv gu x4 (ix2 (0 : Fin 1) d) : EReal) = (rowK0 gv gu x4 (ix2 (0 : Fin 1) d) : EReal) + lane d 1 (penK gv gu x4 1) := by
  unfold rowK1 gblk sblk v2K
  unfold_payloads
  pointwise
  simp only [eye_kernel]
  rfl

theorem rowK2_apply : (rowK2 gv gu x4 (ix2 (0 : Fin 1) d) : EReal) = (rowK1 gv gu x4 (ix2 (0 : Fin 1) d) : EReal) + lane d 2 (penK gv gu x4 2) := by
  unfold rowK2 gblk sblk v2K
  unfold_payloads
  pointwise
  simp only [eye_kernel]
  rfl

theorem rowK3_apply : (rowK3 gv gu x4 (ix2 (0 : Fin 1) d) : EReal) = (rowK2 gv gu x4 (ix2 (0 : Fin 1) d) : EReal) + lane d 3 (penK gv gu x4 3) := by
  unfold rowK3 gblk sblk v2K
  unfold_payloads
  pointwise
  simp only [eye_kernel]
  rfl

theorem rowK5_apply : (rowK5 gv gu x4 (ix2 (0 : Fin 1) d) : EReal) = (rowK3 gv gu x4 (ix2 (0 : Fin 1) d) : EReal) + lane d 4 (penK gv gu x4 4) + lane d 5 (penK gv gu x4 5) := by
  unfold rowK5 gblk sblk v2K
  unfold_payloads
  pointwise
  simp only [eye_kernel]
  rfl

theorem rowK6_apply : (rowK6 gv gu x4 (ix2 (0 : Fin 1) d) : EReal) = (rowK5 gv gu x4 (ix2 (0 : Fin 1) d) : EReal) + lane d 6 (penK gv gu x4 6) := by
  unfold rowK6 gblk sblk v2K
  unfold_payloads
  pointwise
  simp only [eye_kernel]
  rfl

/-- The kernel's second result from the counts and the penalties. -/
theorem regK_row (cnt : Vec Ideal S1x8 .f32) :
    (regK gv gu x4 cnt (ix2 (0 : Fin 1) (0 : Fin 1)) : EReal)
      = Ideal.div (∑ e : Fin 8, (FloatOps.sitofp (F := Ideal) .f32 (BitVec.setWidth 32 (BitVec.ofBool (decide ((0 : EReal) < cnt (ix2 (0 : Fin 1) e))))) : EReal)
          * ((rowK6 gv gu x4 (ix2 (0 : Fin 1) e) : EReal) + lane e 7 (penK gv gu x4 7))) (Ideal.ofBits .f32 1090519040#32) := by
  unfold regK gblk sblk v2K
  unfold_payloads
  pointwise
  simp only [eye_kernel, Fin.sum_univ_one, Finset.univ_unique, Finset.sum_singleton]
  rfl

/-- At lane `e` only domain `e`'s penalty is left. -/
theorem lanes (p : Fin 8 → EReal) (e : Fin 8) :
    lane e 0 (p 0) + lane e 1 (p 1) + lane e 2 (p 2) + lane e 3 (p 3) + (lane e 4 (p 4) + lane e 5 (p 5)) + lane e 6 (p 6) + lane e 7 (p 7) = p e := by
  fin_cases e <;> simp [lane, Scalar.select, IntOp.cmpi]

/-- The kernel's second result: the mean of the penalties of the domains with a positive count. -/
theorem regK_apply (cnt : Vec Ideal S1x8 .f32) :
    (regK gv gu x4 cnt (ix2 (0 : Fin 1) (0 : Fin 1)) : EReal)
      = Ideal.div (∑ e : Fin 8, (if (0 : EReal) < cnt (ix2 (0 : Fin 1) e) then 1 else 0) * penK gv gu x4 e) (Ideal.ofBits .f32 1090519040#32) := by
  rw [regK_row]
  congr 1
  refine Finset.sum_congr rfl fun e _ => ?_
  congr 1
  · split_ifs with h
    · rw [decide_eq_true h]
      change (((BitVec.setWidth 32 1#1).toInt : ℝ) : EReal) = 1
      norm_num
    · rw [decide_eq_false h]
      change (((BitVec.setWidth 32 0#1).toInt : ℝ) : EReal) = 0
      norm_num
  · rw [rowK6_apply, rowK5_apply, rowK3_apply, rowK2_apply, rowK1_apply, rowK0_apply, ← lanes (penK gv gu x4) e]
    simp only [add_assoc]

end

end Cert.KernelIdeal.Hand

end
-- ==== Proof.RegFinal.lean ====
module

public import proofs.«01_k».proof.Proof.RegBlock

@[expose] public section

/-! The kernel's second result after the run: the common formula of the arguments. -/

set_option maxRecDepth 16384

noncomputable section

namespace Cert.Common

open Idealize.ShloMosaic
open scoped BigOperators

/-- A sum of zeros and ones is not negative, and is positive exactly when one of them is a one. -/
theorem sum_indicator {n : ℕ} (p : Fin n → Prop) [DecidablePred p] :
    0 ≤ ∑ r, (if p r then (1 : EReal) else 0) ∧ (0 < ∑ r, (if p r then (1 : EReal) else 0) ↔ ∃ r, p r) := by
  have hn : ∀ r ∈ Finset.univ, (0 : EReal) ≤ if p r then (1 : EReal) else 0 := fun r _ => by
    split_ifs
    · exact zero_le_one
    · exact le_rfl
  refine ⟨Finset.sum_nonneg hn, fun h => ?_, fun ⟨r, hr⟩ => ?_⟩
  · by_contra hc
    refine absurd h (not_lt.mpr (le_of_eq (Finset.sum_eq_zero fun r _ => if_neg fun hr => hc ⟨r, hr⟩)))
  · refine lt_of_lt_of_le ?_ (Finset.single_le_sum hn (Finset.mem_univ r))
    rw [if_pos hr]
    exact zero_lt_one

/-- A sum of two extended reals that are not negative is positive exactly when one of them is. -/
theorem add_pos_iff' {a b : EReal} (ha : 0 ≤ a) (hb : 0 ≤ b) : 0 < a + b ↔ 0 < a ∨ 0 < b := by
  constructor
  · intro h
    by_contra hc
    rw [not_or, not_lt, not_lt] at hc
    rw [le_antisymm hc.1 ha, le_antisymm hc.2 hb, add_zero] at h
    exact lt_irrefl _ h
  · rintro (h | h)
    · exact lt_of_lt_of_le h (le_add_of_nonneg_right hb)
    · exact lt_of_lt_of_le h (le_add_of_nonneg_left ha)

/-- The size of a number divided by sixteen is its size divided by sixteen. -/
theorem abs_scaled (s : EReal) {c : ℝ} (hc : 0 ≤ c) : max (s * (c : EReal)) (-(s * (c : EReal))) = max s (-s) * (c : EReal) := by
  rw [← EReal.neg_mul]
  have hm : Monotone fun x : EReal => x * (c : EReal) := fun x y h => mul_le_mul_of_nonneg_right h (EReal.coe_nonneg.mpr hc)
  exact (hm.map_max (a := s) (b := -s)).symm

/-- The kernel's scale term, of scales divided by sixteen with the weight taken sixteen-fold, is the plain one. -/
theorem scale_term (S : Fin 64 → EReal) :
    Ideal.ofBits .f32 1070386381#32
        * Ideal.div (∑ r, max (Ideal.div (S r) (Ideal.ofBits .f32 1098907648#32)) (-(Ideal.div (S r) (Ideal.ofBits .f32 1098907648#32))))
            (Ideal.ofBits .f32 1115684864#32)
      = Ideal.ofBits .f32 1036831949#32 * Ideal.div (∑ r, max (S r) (-(S r))) (Ideal.ofBits .f32 1115684864#32) := by
  rw [Cert.KernelIdeal.Hand.lit_sixteen_f32, Cert.KernelIdeal.Hand.lit_weight_kernel, Cert.KernelIdeal.Hand.lit_weight_ref,
    Cert.KernelIdeal.Hand.lit_sixtyfour]
  simp only [Cert.KernelIdeal.Hand.div_coe _ (show (16 : ℝ) ≠ 0 by norm_num), Cert.KernelIdeal.Hand.div_coe _ (show (64 : ℝ) ≠ 0 by norm_num),
    abs_scaled _ (show (0 : ℝ) ≤ 16⁻¹ by norm_num)]
  rw [Cert.KernelIdeal.Hand.sum_mul_coe _ _ (by norm_num)]
  generalize (∑ r, max (S r) (-(S r))) = A
  rw [mul_comm, mul_comm _ (A * _)]
  simp only [mul_assoc, ← EReal.coe_mul]
  norm_num

end Cert.Common

namespace Cert.KernelIdeal.Hand

open Idealize.ShloMosaic Idealize.ShloMosaic.TcCoe Idealize.ShloMosaic.Tactic
open Cert.KernelIdeal.Gen Cert.Common
open scoped BigOperators

/-- One block's count of the tokens of domain `d`. -/
theorem pay20_apply (x : Vec Ideal S1024x1 .i32) (d : Fin 8) :
    (k0_pay20 x (ix2 (0 : Fin 1) d) : EReal)
      = ∑ r : Fin 1024, if (x (ix2 r (0 : Fin 1)) : BitVec 32) = BitVec.ofNat 32 d.val then (1 : EReal) else 0 := by
  unfold_payloads
  pointwise
  exact Finset.sum_congr rfl fun r _ => indicator _ _

theorem pay21_apply (x : Vec Ideal S1024x1 .i32) (d : Fin 8) :
    (k0_pay21 x (ix2 (0 : Fin 1) d) : EReal) = k0_pay20 x (ix2 (0 : Fin 1) d) := by
  unfold k0_pay21
  pointwise

theorem pay24_apply (x : Vec Ideal S1024x1 .i32) (y : Vec Ideal S1x8 .f32) (d : Fin 8) :
    (k0_pay24 x y (ix2 (0 : Fin 1) d) : EReal) = (y (ix2 (0 : Fin 1) d) : EReal) + k0_pay20 x (ix2 (0 : Fin 1) d) := by
  unfold k0_pay24
  pointwise

/-- The Gram matrix of the input projections. -/
theorem pay25_apply (x : Vec Ideal S2048x512 .bf16) (a b : Fin 512) :
    (k0_pay25 x (ix2 a b) : EReal) = ∑ k : Fin 2048, (x (ix2 k a) : EReal) * (x (ix2 k b) : EReal) := by
  unfold_payloads
  pointwise

/-- The Gram matrix of the output projections. -/
theorem pay26_apply (x : Vec Ideal S512x2048 .bf16) (a b : Fin 512) :
    (k0_pay26 x (ix2 a b) : EReal) = ∑ k : Fin 2048, (x (ix2 a k) : EReal) * (x (ix2 b k) : EReal) := by
  unfold_payloads
  pointwise

variable (m : (ℓ : Loc nD τ sig) → Buf (Elt Ideal) ℓ) (c : Dev nD)

theorem cd_col (d : Fin 8) (x : Fin 64) : cd (col d x) = d := Fin.ext (by simp only [cd, col]; omega)
theorem cr_col (d : Fin 8) (x : Fin 64) : cr (col d x) = x := Fin.ext (by simp only [cr, col]; omega)

/-- One block's count is not negative, and is positive exactly when one of its tokens has the domain. -/
theorem block_count (t : Fin cfg0.N) (d : Fin 8) :
    (0 : EReal) ≤ k0_pay20 (iblk m c 0 t) (ix2 (0 : Fin 1) d)
      ∧ ((0 : EReal) < k0_pay20 (iblk m c 0 t) (ix2 (0 : Fin 1) d) ↔ ∃ r, argD m c (tok t r) = BitVec.ofNat 32 d.val) := by
  have e : (k0_pay20 (iblk m c 0 t) (ix2 (0 : Fin 1) d) : EReal)
      = ∑ r : Fin 1024, if argD m c (tok t r) = BitVec.ofNat 32 d.val then (1 : EReal) else 0 := by
    refine (pay20_apply (iblk m c 0 t) d).trans (Finset.sum_congr rfl fun r _ => ?_)
    rw [ids_apply m c t r]
    rfl
  rw [e]
  exact sum_indicator _

/-- The running count after a point is not negative, and is positive exactly when a token up to there has the domain. -/
theorem cnt_pos (d : Fin 8) : ∀ (n : ℕ) (h : n < cfg0.N),
    (0 : EReal) ≤ cntAt m c n (ix2 (0 : Fin 1) d)
      ∧ ((0 : EReal) < cntAt m c n (ix2 (0 : Fin 1) d)
          ↔ ∃ t : Fin cfg0.N, t.val ≤ n ∧ ∃ r, argD m c (tok t r) = BitVec.ofNat 32 d.val)
  | 0, h => by
    have e : (cntAt m c 0 (ix2 (0 : Fin 1) d) : EReal) = k0_pay20 (iblk m c 0 ⟨0, h⟩) (ix2 (0 : Fin 1) d) := by
      rw [show cntAt m c 0 = k0_pay21 (iblk m c 0 ⟨0, h⟩) from cntAt_first m c ⟨0, h⟩ rfl]
      exact pay21_apply _ d
    have b := block_count m c ⟨0, h⟩ d
    rw [e]
    refine ⟨b.1, b.2.trans ⟨fun hr => ⟨⟨0, h⟩, le_rfl, hr⟩, fun ⟨t, ht, hr⟩ => ?_⟩⟩
    obtain rfl : t = ⟨0, h⟩ := Fin.ext (Nat.le_zero.mp ht)
    exact hr
  | n + 1, h => by
    have i := cnt_pos d n (Nat.lt_of_succ_lt h)
    have e : (cntAt m c (n + 1) (ix2 (0 : Fin 1) d) : EReal)
        = (cntAt m c n (ix2 (0 : Fin 1) d) : EReal) + k0_pay20 (iblk m c 0 ⟨n + 1, h⟩) (ix2 (0 : Fin 1) d) := by
      rw [show cntAt m c (n + 1) = k0_pay24 (iblk m c 0 ⟨n + 1, h⟩) (cntAt m c n) from cntAt_later m c ⟨n + 1, h⟩ (Nat.succ_pos n)]
      exact pay24_apply _ _ d
    have b := block_count m c ⟨n + 1, h⟩ d
    rw [e]
    refine ⟨add_nonneg i.1 b.1, (add_pos_iff' i.1 b.1).trans ?_⟩
    rw [i.2, b.2]
    constructor
    · rintro (⟨t, ht, hr⟩ | hr)
      · exact ⟨t, Nat.le_succ_of_le ht, hr⟩
      · exact ⟨⟨n + 1, h⟩, le_rfl, hr⟩
    · rintro ⟨t, ht, hr⟩
      rcases Nat.lt_or_ge t.val (n + 1) with hl | hl
      · exact Or.inl ⟨t, Nat.lt_succ_iff.mp hl, hr⟩
      · obtain rfl : t = ⟨n + 1, h⟩ := Fin.ext (le_antisymm ht hl)
        exact Or.inr hr

/-- The last count is positive exactly when some token has the domain. -/
theorem cnt_last (d : Fin 8) :
    (0 : EReal) < cntAt m c t0_15.val (ix2 (0 : Fin 1) d) ↔ ∃ n, argD m c n = BitVec.ofNat 32 d.val := by
  have hN : cfg0.N = 16 := N_0
  refine (cnt_pos m c d t0_15.val t0_15.isLt).2.trans ⟨fun ⟨t, _, r, h⟩ => ⟨_, h⟩, fun ⟨n, h⟩ => ?_⟩
  refine ⟨⟨n.val / 1024, by omega⟩, ?_, ⟨n.val % 1024, by omega⟩, ?_⟩
  · change n.val / 1024 ≤ 15
    omega
  · rw [← h]
    congr 1
    exact Fin.ext (by simp only [tok]; omega)

/-- The penalties the kernel computes are the common ones. -/
theorem penK_eq (d : Fin 8) : penK (gvAt m c) (guAt m c) (sRaw m c) d = penAt (argU m c) (argV m c) (argS m c) d := by
  have hv : ∀ x y : Fin 64, (gvAt m c (ix2 (col d x) (col d y)) : EReal) = ∑ k : Fin 2048, argV m c d k x * argV m c d k y := fun x y => by
    refine (pay25_apply (vRaw m c) _ _).trans ?_
    simp only [vRaw_apply, cd_col, cr_col]
    rfl
  have hu : ∀ x y : Fin 64, (guAt m c (ix2 (col d x) (col d y)) : EReal) = ∑ k : Fin 2048, argU m c d k x * argU m c d k y := fun x y => by
    refine (pay26_apply (uRaw m c) _ _).trans ?_
    simp only [uRaw_apply, cd_col, cr_col]
    rfl
  have hs : ∀ x : Fin 64, (sRaw m c (ix2 (0 : Fin 1) (col d x)) : EReal) = Ideal.div (argS m c d x) (Ideal.ofBits .f32 1098907648#32) := fun x => by
    refine (sRaw_apply m c _).trans ?_
    rw [cd_col, cr_col]
    rfl
  unfold penK penAt gramErr
  simp only [hv, hu, hs]
  rw [scale_term]

/-- The second result as the kernel's last point writes it. -/
theorem reg_point : (regK (gvAt m c) (guAt m c) (sRaw m c) (cntAt m c t0_15.val) (ix2 (0 : Fin 1) (0 : Fin 1)) : EReal)
    = regAt (argD m c) (argU m c) (argV m c) (argS m c) := by
  refine (regK_apply (gvAt m c) (guAt m c) (sRaw m c) (cntAt m c t0_15.val)).trans ?_
  unfold regAt
  refine congrArg (fun s : EReal => Ideal.div s (Ideal.ofBits .f32 1090519040#32)) (Finset.sum_congr rfl fun d _ => ?_)
  refine congrArg₂ (fun a b : EReal => a * b) ?_ (penK_eq m c d)
  unfold usedAt
  exact if_congr (cnt_last m c d) rfl rfl

/-- The second result array after the run. -/
theorem reg_final : (dats m 0 c).arrAt 6 (cfgs 0).N
    = fun _ : S1x1.Idx => regAt (argD m c) (argU m c) (argV m c) (argS m c) := by
  refine (dats m 0 c).arrAt_eq_of_after_last 6 t0_15 (by decide +kernel) _ fun j => ?_
  blk_simp
  rw [after0_6]
  obtain rfl : j = ix2 (0 : Fin 1) (0 : Fin 1) := by blk_ext []
  exact reg_point m c

end Cert.KernelIdeal.Hand

end
-- ==== Proof.RegRef.lean ====
module

public import proofs.«01_k».proof.Proof.RegFinal
public import Idealize.ShloMosaic.Lib.Routing.OpsOrder

@[expose] public section

/-! The reference's second result over the extended reals: the common formula of the arguments. -/

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.Common
open scoped BigOperators

/-- The reference's identity matrix, whose entries are comparisons of row and column numbers read as numbers. -/
theorem eye_ref (x y : Fin 64) :
    (FloatOps.uitofp (F := Ideal) .f32 (IntOp.cmpi .eq (IntOp.addi (BitVec.ofNat 32 x.val) 0#32) (BitVec.ofNat 32 y.val)) : EReal) = eyeAt x y := by
  rw [show IntOp.addi (BitVec.ofNat 32 x.val) 0#32 = BitVec.ofNat 32 x.val from BitVec.add_zero _]
  unfold eyeAt
  split_ifs with h
  · rw [show IntOp.cmpi .eq (BitVec.ofNat 32 x.val) (BitVec.ofNat 32 y.val) = 1#1 by subst h; simp [IntOp.cmpi]]
    change (((1#1).toNat : ℝ) : EReal) = 1
    norm_num
  · rw [show IntOp.cmpi .eq (BitVec.ofNat 32 x.val) (BitVec.ofNat 32 y.val) = 0#1 by
      change BitVec.ofBool (BitVec.ofNat 32 x.val == BitVec.ofNat 32 y.val) = 0#1
      rw [beq_false_of_ne ((ofNat_eq_iff x y).not.mpr h)]; rfl]
    change (((0#1).toNat : ℝ) : EReal) = 0
    norm_num

/-- The reference's test whether any token has domain `d`. -/
theorem used_ref (D : Fin 16384 → BitVec 32) (d : Fin 8) :
    (FloatOps.uitofp (F := Ideal) .f32 (Finset.fold IntOp.ori (0#1) (fun k => IntOp.cmpi .eq (D k) (BitVec.ofNat 32 d.val)) Finset.univ) : EReal)
      = usedAt D d := by
  have e : ∀ a b : BitVec 32, IntOp.cmpi .eq a b = 1#1 ↔ a = b := fun a b => by
    change BitVec.ofBool (a == b) = 1#1 ↔ a = b
    by_cases h : a = b
    · subst h; simp
    · rw [beq_false_of_ne h]; simp [h]
  have f := Routing.fold_ori Finset.univ fun k => IntOp.cmpi .eq (D k) (BitVec.ofNat 32 d.val)
  unfold usedAt
  split_ifs with h
  · obtain ⟨n, hn⟩ := h
    rw [f.mpr ⟨n, Finset.mem_univ n, (e _ _).mpr hn⟩]
    change (((1#1).toNat : ℝ) : EReal) = 1
    norm_num
  · rcases BitVec.eq_zero_or_eq_one (Finset.fold IntOp.ori (0#1) (fun k => IntOp.cmpi .eq (D k) (BitVec.ofNat 32 d.val)) Finset.univ) with g | g
    · rw [g]
      change (((0#1).toNat : ℝ) : EReal) = 0
      norm_num
    · obtain ⟨n, _, hn⟩ := f.mp g
      exact absurd ⟨n, (e _ _).mp hn⟩ h

variable (W : Valuation τ sig (Elt Ideal))

/-- The arguments by coordinates. -/
def refD (n : Fin 16384) : BitVec 32 := (W (Proc.devRef .tc main_arg1) : Vec Ideal S16384 .i32) (ix1 n)
def refU (d : Fin 8) (k : Fin 2048) (r : Fin 64) : EReal := (W (Proc.devRef .tc main_arg2) : Vec Ideal S8x2048x64 .f32) (ix3 d k r)
def refV (d : Fin 8) (k : Fin 2048) (r : Fin 64) : EReal := (W (Proc.devRef .tc main_arg3) : Vec Ideal S8x2048x64 .f32) (ix3 d k r)
def refS (d : Fin 8) (r : Fin 64) : EReal := (W (Proc.devRef .tc main_arg4) : Vec Ideal S8x64 .f32) (ix2 d r)

theorem v32_apply (x y : Fin 64) :
    (res_main_v32 W : Vec Ideal S64x64 .f32) (ix2 x y) = (∑ k : Fin 2048, refU W 0 k x * refU W 0 k y) - eyeAt x y := by
  unfold res_main_v32 res_main_v5
  clean_types
  pointwise
  rw [eye_ref]
  rfl

theorem v82_apply (x y : Fin 64) :
    (res_main_v82 W : Vec Ideal S64x64 .f32) (ix2 x y) = (∑ k : Fin 2048, refU W 1 k x * refU W 1 k y) - eyeAt x y := by
  unfold res_main_v82 res_main_v5
  clean_types
  pointwise
  rw [eye_ref]
  rfl

theorem v132_apply (x y : Fin 64) :
    (res_main_v132 W : Vec Ideal S64x64 .f32) (ix2 x y) = (∑ k : Fin 2048, refU W 2 k x * refU W 2 k y) - eyeAt x y := by
  unfold res_main_v132 res_main_v5
  clean_types
  pointwise
  rw [eye_ref]
  rfl

theorem v182_apply (x y : Fin 64) :
    (res_main_v182 W : Vec Ideal S64x64 .f32) (ix2 x y) = (∑ k : Fin 2048, refU W 3 k x * refU W 3 k y) - eyeAt x y := by
  unfold res_main_v182 res_main_v5
  clean_types
  pointwise
  rw [eye_ref]
  rfl

theorem v232_apply (x y : Fin 64) :
    (res_main_v232 W : Vec Ideal S64x64 .f32) (ix2 x y) = (∑ k : Fin 2048, refU W 4 k x * refU W 4 k y) - eyeAt x y := by
  unfold res_main_v232 res_main_v5
  clean_types
  pointwise
  rw [eye_ref]
  rfl

theorem v282_apply (x y : Fin 64) :
    (res_main_v282 W : Vec Ideal S64x64 .f32) (ix2 x y) = (∑ k : Fin 2048, refU W 5 k x * refU W 5 k y) - eyeAt x y := by
  unfold res_main_v282 res_main_v5
  clean_types
  pointwise
  rw [eye_ref]
  rfl

theorem v332_apply (x y : Fin 64) :
    (res_main_v332 W : Vec Ideal S64x64 .f32) (ix2 x y) = (∑ k : Fin 2048, refU W 6 k x * refU W 6 k y) - eyeAt x y := by
  unfold res_main_v332 res_main_v5
  clean_types
  pointwise
  rw [eye_ref]
  rfl

theorem v382_apply (x y : Fin 64) :
    (res_main_v382 W : Vec Ideal S64x64 .f32) (ix2 x y) = (∑ k : Fin 2048, refU W 7 k x * refU W 7 k y) - eyeAt x y := by
  unfold res_main_v382 res_main_v5
  clean_types
  pointwise
  rw [eye_ref]
  rfl

theorem v42_apply (x y : Fin 64) :
    (res_main_v42 W : Vec Ideal S64x64 .f32) (ix2 x y) = (∑ k : Fin 2048, refV W 0 k x * refV W 0 k y) - eyeAt x y := by
  unfold res_main_v42 res_main_v5
  clean_types
  pointwise
  rw [eye_ref]
  rfl

theorem v92_apply (x y : Fin 64) :
    (res_main_v92 W : Vec Ideal S64x64 .f32) (ix2 x y) = (∑ k : Fin 2048, refV W 1 k x * refV W 1 k y) - eyeAt x y := by
  unfold res_main_v92 res_main_v5
  clean_types
  pointwise
  rw [eye_ref]
  rfl

theorem v142_apply (x y : Fin 64) :
    (res_main_v142 W : Vec Ideal S64x64 .f32) (ix2 x y) = (∑ k : Fin 2048, refV W 2 k x * refV W 2 k y) - eyeAt x y := by
  unfold res_main_v142 res_main_v5
  clean_types
  pointwise
  rw [eye_ref]
  rfl

theorem v192_apply (x y : Fin 64) :
    (res_main_v192 W : Vec Ideal S64x64 .f32) (ix2 x y) = (∑ k : Fin 2048, refV W 3 k x * refV W 3 k y) - eyeAt x y := by
  unfold res_main_v192 res_main_v5
  clean_types
  pointwise
  rw [eye_ref]
  rfl

theorem v242_apply (x y : Fin 64) :
    (res_main_v242 W : Vec Ideal S64x64 .f32) (ix2 x y) = (∑ k : Fin 2048, refV W 4 k x * refV W 4 k y) - eyeAt x y := by
  unfold res_main_v242 res_main_v5
  clean_types
  pointwise
  rw [eye_ref]
  rfl

theorem v292_apply (x y : Fin 64) :
    (res_main_v292 W : Vec Ideal S64x64 .f32) (ix2 x y) = (∑ k : Fin 2048, refV W 5 k x * refV W 5 k y) - eyeAt x y := by
  unfold res_main_v292 res_main_v5
  clean_types
  pointwise
  rw [eye_ref]
  rfl

theorem v342_apply (x y : Fin 64) :
    (res_main_v342 W : Vec Ideal S64x64 .f32) (ix2 x y) = (∑ k : Fin 2048, refV W 6 k x * refV W 6 k y) - eyeAt x y := by
  unfold res_main_v342 res_main_v5
  clean_types
  pointwise
  rw [eye_ref]
  rfl

theorem v392_apply (x y : Fin 64) :
    (res_main_v392 W : Vec Ideal S64x64 .f32) (ix2 x y) = (∑ k : Fin 2048, refV W 7 k x * refV W 7 k y) - eyeAt x y := by
  unfold res_main_v392 res_main_v5
  clean_types
  pointwise
  rw [eye_ref]
  rfl

/-- One domain's summand, as the reference's term reads. -/
theorem summand (d : Fin 8) (gu gv : Fin 64 → Fin 64 → EReal)
    (hu : ∀ x y, gu x y = (∑ k : Fin 2048, refU W d k x * refU W d k y) - eyeAt x y)
    (hv : ∀ x y, gv x y = (∑ k : Fin 2048, refV W d k x * refV W d k y) - eyeAt x y) :
    (FloatOps.uitofp (F := Ideal) .f32 (Finset.fold IntOp.ori (0#1) (fun k => IntOp.cmpi .eq (refD W k) (BitVec.ofNat 32 d.val)) Finset.univ) : EReal)
        * (Ideal.div (∑ x, ∑ y, gu x y * gu x y) (Ideal.ofBits .f32 1166016512#32) + Ideal.div (∑ x, ∑ y, gv x y * gv x y) (Ideal.ofBits .f32 1166016512#32)
          + Ideal.ofBits .f32 1036831949#32 * Ideal.div (∑ r, max (refS W d r) (-(refS W d r))) (Ideal.ofBits .f32 1115684864#32))
      = usedAt (refD W) d * penAt (refU W) (refV W) (refS W) d := by
  rw [used_ref]
  simp only [hu, hv]
  rfl

/-- The first six domains' summands. -/
theorem v305_apply (i : S_.Idx) : (res_main_v305 W : Vec Ideal S_ .f32) i
    = usedAt (refD W) 0 * penAt (refU W) (refV W) (refS W) 0 + usedAt (refD W) 1 * penAt (refU W) (refV W) (refS W) 1 + usedAt (refD W) 2 * penAt (refU W) (refV W) (refS W) 2 + usedAt (refD W) 3 * penAt (refU W) (refV W) (refS W) 3 + usedAt (refD W) 4 * penAt (refU W) (refV W) (refS W) 4 + usedAt (refD W) 5 * penAt (refU W) (refV W) (refS W) 5 := by
  unfold res_main_v305 res_main_v7 res_main_v57 res_main_v107 res_main_v157 res_main_v207 res_main_v257
  clean_types
  pointwise
  rw [← summand W 0 _ _ (v32_apply W) (v42_apply W),
    ← summand W 1 _ _ (v82_apply W) (v92_apply W),
    ← summand W 2 _ _ (v132_apply W) (v142_apply W),
    ← summand W 3 _ _ (v182_apply W) (v192_apply W),
    ← summand W 4 _ _ (v232_apply W) (v242_apply W),
    ← summand W 5 _ _ (v282_apply W) (v292_apply W)]
  rfl

/-- The reference's second result as the run leaves it. -/
def out1 : Vec Ideal S1 .f32 := shapeCast _ (Host.divf (addf (addf (res_main_v305 W) (mulf (uitofp .f32 (Host.reduce IntOp.ori (res_main_v307 W) (constantI S_ 1 0#1) reducesTo_S16384_S_d0 h_S_)) (addf (addf (Host.divf (Host.reduceAdd (mulf (res_main_v332 W) (res_main_v332 W)) (constant S_ .f32 0x00000000#32) reducesTo_S64x64_S_d0_1 h_S_) (constant S_ .f32 0x45800000#32)) (Host.divf (Host.reduceAdd (mulf (res_main_v342 W) (res_main_v342 W)) (constant S_ .f32 0x00000000#32) reducesTo_S64x64_S_d0_1 h_S_) (constant S_ .f32 0x45800000#32))) (mulf (constant S_ .f32 0x3DCCCCCD#32) (Host.divf (Host.reduceAdd (Host.absf (shapeCast _ (extractStridedSlice S1x64 ![6, 0] (W (Proc.devRef .tc main_arg4)) slices_S8x64_S1x64_6_0) shapeCasts_S1x64_S64)) (constant S_ .f32 0x00000000#32) reducesTo_S64_S_d0 h_S_) (constant S_ .f32 0x42800000#32)))))) (mulf (uitofp .f32 (Host.reduce IntOp.ori (res_main_v357 W) (constantI S_ 1 0#1) reducesTo_S16384_S_d0 h_S_)) (addf (addf (Host.divf (Host.reduceAdd (mulf (res_main_v382 W) (res_main_v382 W)) (constant S_ .f32 0x00000000#32) reducesTo_S64x64_S_d0_1 h_S_) (constant S_ .f32 0x45800000#32)) (Host.divf (Host.reduceAdd (mulf (res_main_v392 W) (res_main_v392 W)) (constant S_ .f32 0x00000000#32) reducesTo_S64x64_S_d0_1 h_S_) (constant S_ .f32 0x45800000#32))) (mulf (constant S_ .f32 0x3DCCCCCD#32) (Host.divf (Host.reduceAdd (Host.absf (shapeCast _ (extractStridedSlice S1x64 ![7, 0] (W (Proc.devRef .tc main_arg4)) slices_S8x64_S1x64_7_0) shapeCasts_S1x64_S64)) (constant S_ .f32 0x00000000#32) reducesTo_S64_S_d0 h_S_) (constant S_ .f32 0x42800000#32)))))) (constant S_ .f32 0x41000000#32)) shapeCasts_S_S1

/-- The reference's second result is the common formula of the arguments. -/
theorem out1_apply (i : Fin 1) : (out1 W (ix1 i) : EReal) = regAt (refD W) (refU W) (refV W) (refS W) := by
  unfold out1 res_main_v307 res_main_v357
  clean_types
  pointwise
  unfold regAt
  rw [Fin.sum_univ_eight]
  rw [v305_apply, ← summand W 6 _ _ (v332_apply W) (v342_apply W),
    ← summand W 7 _ _ (v382_apply W) (v392_apply W)]
  rfl

end Cert.ReferenceIdeal.Hand

end
-- ==== Proof.Result.lean ====
module

public import proofs.«01_k».proof.Proof.RegRef
public import Idealize.ShloMosaic.Lib.Claim

@[expose] public section

/-! Both programs end with the same two results. -/

set_option maxRecDepth 16384

noncomputable section

namespace Cert.KernelIdeal.Hand

open Idealize.ShloMosaic Idealize.ShloMosaic.TcCoe Idealize.ShloMosaic.Tactic Idealize.SL.Sem Idealize.ShloMosaic.StableHlo
open Cert.KernelIdeal.Gen Cert.Common

variable (m : (ℓ : Loc nD τ sig) → Buf (Elt Ideal) ℓ) (ρ : Dev nD → PrngReg)

/-- The kernel's first result, of its arguments. -/
def res0 (c : Dev nD) : Vec Ideal S16384x2048 .f32 :=
  fun i => outAt (argX m c) (argD m c) (argU m c) (argV m c) (argS m c) (i 0) (i 1)
/-- The kernel's second result, of its arguments. -/
def res1 (c : Dev nD) : Vec Ideal S1 .f32 := fun _ => regAt (argD m c) (argU m c) (argV m c) (argS m c)

/-- The host line after the region flattens the one-entry array of the second result. -/
theorem tail_reg (c : Dev nD) : Pipeline.afterTail₀ cfgs (dats m) 0 (V0 m) [hostOps1] c main_v0_1 = res1 m c := by
  have e : Pipeline.afterTail₀ cfgs (dats m) 0 (V0 m) [hostOps1] c main_v0_1
      = shapeCast S1 ((dats m 0 c).arrAt 6 (cfgs 0).N) shapeCasts_S1x1_S1 := by
    unfold Pipeline.afterTail₀
    simp only [List.flatten_cons, List.flatten_nil, List.append_nil]
    after_results
    exact congrArg (fun v : Vec Ideal S1x1 .f32 => shapeCast S1 v shapeCasts_S1x1_S1)
      (Pipeline.withArrays_arr (cfgs 0).spec (by decide) c (V0 m c) (fun w => (dats m 0 c).arrAt w (cfgs 0).N) 6)
  rw [e, reg_final]
  rfl

/-- Every execution of the kernel ends with the two results at the common formulas and the arguments unchanged. -/
theorem kernel_run : θ_run defs (onTc (τ := τ) (main (F := Ideal))) ⟨m, fun _ => 0, ρ⟩ (fun r => ∀ c : Dev nD,
      r.2.mem ((c.tc : Thread nD τ).loc main_v0_0) = res0 m c
      ∧ r.2.mem ((c.tc : Thread nD τ).loc main_v0_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := (θ_run defs _ _).mono (fun _ h => h.1) (run_quiescent (F := Ideal) m ρ)
  run_from h
  · exact out_final m c
  · exact tail_reg m c
  · exact W_main_arg1 m (dats m) c
  · exact W_main_arg2 m (dats m) c
  · exact W_main_arg3 m (dats m) c
  · exact W_main_arg4 m (dats m) c

/-- Every execution of the kernel, over any carrier of floats, leaves the arguments unchanged and every counter at zero. -/
theorem kernel_frame {F : FTy → Type} [FloatOps F] (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Hand

namespace Cert.ReferenceIdeal.Hand

open Idealize.ShloMosaic Idealize.ShloMosaic.TcCoe Idealize.ShloMosaic.Tactic Idealize.SL.Sem Idealize.ShloMosaic.StableHlo
open Cert.ReferenceIdeal Cert.ReferenceIdeal.Value Cert.Common

variable (m : (ℓ : Loc KernelIdeal.nD KernelIdeal.τ KernelIdeal.sig) → Buf (Elt Ideal) ℓ)
    (m' : (ℓ : Loc nD τ sig) → Buf (Elt Ideal) ℓ) (c : Dev nD)

/-- The reference's first result is the kernel's, on the same arguments. -/
theorem res0_eq
    (h0 : m' ((c.tc : Thread nD τ).loc main_arg0) = m ((c.tc : Thread KernelIdeal.nD KernelIdeal.τ).loc KernelIdeal.main_arg0))
    (h1 : m' ((c.tc : Thread nD τ).loc main_arg1) = m ((c.tc : Thread KernelIdeal.nD KernelIdeal.τ).loc KernelIdeal.main_arg1))
    (h2 : m' ((c.tc : Thread nD τ).loc main_arg2) = m ((c.tc : Thread KernelIdeal.nD KernelIdeal.τ).loc KernelIdeal.main_arg2))
    (h3 : m' ((c.tc : Thread nD τ).loc main_arg3) = m ((c.tc : Thread KernelIdeal.nD KernelIdeal.τ).loc KernelIdeal.main_arg3))
    (h4 : m' ((c.tc : Thread nD τ).loc main_arg4) = m ((c.tc : Thread KernelIdeal.nD KernelIdeal.τ).loc KernelIdeal.main_arg4)) :
    (res_main_v373 (launchContents m' c) : Vec Ideal S16384x2048 .f32) = KernelIdeal.Hand.res0 m c := by
  funext i
  obtain ⟨n, j, rfl⟩ : ∃ (n : Fin 16384) (j : Fin 2048), i = ix2 n j := ⟨i 0, i 1, by blk_ext []⟩
  refine (out_apply (launchContents m' c) n j).trans ?_
  change outAt (fun n j => (m' ((c.tc : Thread nD τ).loc main_arg0) : Vec Ideal S16384x2048 .f32) (ix2 n j))
      (fun n => (m' ((c.tc : Thread nD τ).loc main_arg1) : Vec Ideal S16384 .i32) (ix1 n))
      (fun d k r => (m' ((c.tc : Thread nD τ).loc main_arg2) : Vec Ideal S8x2048x64 .f32) (ix3 d k r))
      (fun d k r => (m' ((c.tc : Thread nD τ).loc main_arg3) : Vec Ideal S8x2048x64 .f32) (ix3 d k r))
      (fun d r => (m' ((c.tc : Thread nD τ).loc main_arg4) : Vec Ideal S8x64 .f32) (ix2 d r)) n j = _
  rw [h0, h1, h2, h3, h4]
  rfl

/-- The reference's second result is the kernel's, on the same arguments. -/
theorem res1_eq
    (h1 : m' ((c.tc : Thread nD τ).loc main_arg1) = m ((c.tc : Thread KernelIdeal.nD KernelIdeal.τ).loc KernelIdeal.main_arg1))
    (h2 : m' ((c.tc : Thread nD τ).loc main_arg2) = m ((c.tc : Thread KernelIdeal.nD KernelIdeal.τ).loc KernelIdeal.main_arg2))
    (h3 : m' ((c.tc : Thread nD τ).loc main_arg3) = m ((c.tc : Thread KernelIdeal.nD KernelIdeal.τ).loc KernelIdeal.main_arg3))
    (h4 : m' ((c.tc : Thread nD τ).loc main_arg4) = m ((c.tc : Thread KernelIdeal.nD KernelIdeal.τ).loc KernelIdeal.main_arg4)) :
    out1 (launchContents m' c) = KernelIdeal.Hand.res1 m c := by
  funext i
  obtain ⟨n, rfl⟩ : ∃ n : Fin 1, i = ix1 n := ⟨i 0, by blk_ext []⟩
  refine (out1_apply (launchContents m' c) n).trans ?_
  change regAt (fun n => (m' ((c.tc : Thread nD τ).loc main_arg1) : Vec Ideal S16384 .i32) (ix1 n))
      (fun d k r => (m' ((c.tc : Thread nD τ).loc main_arg2) : Vec Ideal S8x2048x64 .f32) (ix3 d k r))
      (fun d k r => (m' ((c.tc : Thread nD τ).loc main_arg3) : Vec Ideal S8x2048x64 .f32) (ix3 d k r))
      (fun d r => (m' ((c.tc : Thread nD τ).loc main_arg4) : Vec Ideal S8x64 .f32) (ix2 d r)) = _
  rw [h1, h2, h3, h4]
  rfl

end Cert.ReferenceIdeal.Hand

end
-- ==== Proof.KernelFrame.lean ====
/- The frame of the kernel at its own number formats. Its text and the idealized kernel's agree line by line, so the two are one
   program at every choice of the floats, and the frame of the second is the frame of the first. -/
module

public import proofs.«01_k».proof.Proof.Gen.Kernel.Frame
public import proofs.«01_k».proof.Proof.Result

@[expose] public section

set_option maxRecDepth 16384

noncomputable section

namespace Cert.Kernel.Hand

open Idealize.ShloMosaic Idealize.ShloMosaic.TcCoe Idealize.SL.Sem

variable {F : FTy → Type} [FloatOps F]

/-- The two kernels' body tables are one: their only label runs the same body. -/
theorem defs₀_eq : Cert.KernelIdeal.defs₀ (F := F) = Cert.Kernel.defs₀ (F := F) := by
  unfold Cert.KernelIdeal.defs₀ Cert.Kernel.defs₀
  congr 1
  funext l x
  match l, x with
  | 0, (t, s) => rfl

/-- So are the tables with the pipeline's own labels added. -/
theorem defs_eq : Cert.KernelIdeal.defs (F := F) = Cert.Kernel.defs (F := F) :=
  congrArg (Pipeline.defs Cert.Kernel.pcfgs) defs₀_eq

/-- The host programs are one. -/
theorem main_eq : Cert.KernelIdeal.main (F := F) = Cert.Kernel.main (F := F) := rfl

/-- The kernel runs, leaves its arguments as they were, and every counter at zero. -/
theorem kernel_frame (ρ : Dev nD → PrngReg) (m : (ℓ : Loc nD τ sig) → Buf (Elt F) ℓ) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [← defs_eq, ← main_eq]
  exact Cert.KernelIdeal.Hand.kernel_frame ρ m

end Cert.Kernel.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.KernelFrame
public import Idealize.ShloMosaic.Adequacy
public import Idealize.ShloMosaic.Init

@[expose] public section

/-! The five claims: each program runs and leaves its arguments and counters as they were, the two printings of the kernel
    are the same program, and over the reals the kernel and the reference end with the same two results. -/

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.kernel_frame ρ m,
  fun m ρ _ => Cert.KernelIdeal.Hand.kernel_frame ρ m,
  fun m ρ _ => (θ_run Cert.ReferenceIdeal.defs _ _).mono (fun r h => ⟨fun c => (h c).2.2,
      Idealize.ShloMosaic.sem_eq_zero_of_no_sems (by decide) r.2⟩)
    (Cert.ReferenceIdeal.Value.run (F := Ideal) m ρ),
  trivial,
  fun m g m' g' _ ha => ⟨fun c => Cert.KernelIdeal.Hand.res0 m c, fun c => Cert.KernelIdeal.Hand.res1 m c,
    Cert.KernelIdeal.Hand.kernel_run m g,
    (θ_run Cert.ReferenceIdeal.defs _ _).mono (fun r h c => by
        obtain ⟨h0, h1, h2, h3, h4⟩ := ha c
        exact ⟨(h c).1.trans (Cert.ReferenceIdeal.Hand.res0_eq m m' c h0 h1 h2 h3 h4),
          (h c).2.1.trans (Cert.ReferenceIdeal.Hand.res1_eq m m' c h1 h2 h3 h4), (h c).2.2⟩)
      (Cert.ReferenceIdeal.Value.run (F := Ideal) m' g')⟩⟩

end Cert.Proof

end
